-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MergeMid (m : (ℓ : Loc Cert.MergeMid.nD Cert.MergeMid.τ Cert.MergeMid.sig) → Buf (Elt Bits) ℓ) : Prop :=
  True

def Pre_MergeMidIdeal (m : (ℓ : Loc Cert.MergeMidIdeal.nD Cert.MergeMidIdeal.τ Cert.MergeMidIdeal.sig) → Buf (Elt Ideal) ℓ) : Prop :=
  True

def Pre_MergeMidRefIdeal (m : (ℓ : Loc Cert.MergeMidRefIdeal.nD Cert.MergeMidRefIdeal.τ Cert.MergeMidRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MergeMid [hMergeMid : Cert.MergeMid.Facts] : Prop :=
  ∀ (m : (ℓ : Loc Cert.MergeMid.nD Cert.MergeMid.τ Cert.MergeMid.sig) → Buf (Elt Bits) ℓ) (g : Dev Cert.MergeMid.nD → PrngReg), Pre_MergeMid m →
    θ_run (Cert.MergeMid.defs (F := Bits)) (onTc (τ := Cert.MergeMid.τ) (Cert.MergeMid.main (F := Bits))) ⟨m, fun _ => 0, g⟩ (fun r => (∀ c : Dev Cert.MergeMid.nD,
      r.2.mem ((c.tc : Thread Cert.MergeMid.nD Cert.MergeMid.τ).loc Cert.MergeMid.main_arg0) = m ((c.tc : Thread Cert.MergeMid.nD Cert.MergeMid.τ).loc Cert.MergeMid.main_arg0)
      ∧ r.2.mem ((c.tc : Thread Cert.MergeMid.nD Cert.MergeMid.τ).loc Cert.MergeMid.main_arg1) = m ((c.tc : Thread Cert.MergeMid.nD Cert.MergeMid.τ).loc Cert.MergeMid.main_arg1)
      ∧ r.2.mem ((c.tc : Thread Cert.MergeMid.nD Cert.MergeMid.τ).loc Cert.MergeMid.main_arg2) = m ((c.tc : Thread Cert.MergeMid.nD Cert.MergeMid.τ).loc Cert.MergeMid.main_arg2)
      ∧ r.2.mem ((c.tc : Thread Cert.MergeMid.nD Cert.MergeMid.τ).loc Cert.MergeMid.main_arg3) = m ((c.tc : Thread Cert.MergeMid.nD Cert.MergeMid.τ).loc Cert.MergeMid.main_arg3)
      ∧ r.2.mem ((c.tc : Thread Cert.MergeMid.nD Cert.MergeMid.τ).loc Cert.MergeMid.main_arg4) = m ((c.tc : Thread Cert.MergeMid.nD Cert.MergeMid.τ).loc Cert.MergeMid.main_arg4)
      ∧ r.2.mem ((c.tc : Thread Cert.MergeMid.nD Cert.MergeMid.τ).loc Cert.MergeMid.main_arg5) = m ((c.tc : Thread Cert.MergeMid.nD Cert.MergeMid.τ).loc Cert.MergeMid.main_arg5)
      ∧ r.2.mem ((c.tc : Thread Cert.MergeMid.nD Cert.MergeMid.τ).loc Cert.MergeMid.main_arg6) = m ((c.tc : Thread Cert.MergeMid.nD Cert.MergeMid.τ).loc Cert.MergeMid.main_arg6)
      ∧ r.2.mem ((c.tc : Thread Cert.MergeMid.nD Cert.MergeMid.τ).loc Cert.MergeMid.main_arg7) = m ((c.tc : Thread Cert.MergeMid.nD Cert.MergeMid.τ).loc Cert.MergeMid.main_arg7)
      ∧ r.2.mem ((c.tc : Thread Cert.MergeMid.nD Cert.MergeMid.τ).loc Cert.MergeMid.main_arg8) = m ((c.tc : Thread Cert.MergeMid.nD Cert.MergeMid.τ).loc Cert.MergeMid.main_arg8)
      ∧ r.2.mem ((c.tc : Thread Cert.MergeMid.nD Cert.MergeMid.τ).loc Cert.MergeMid.main_arg9) = m ((c.tc : Thread Cert.MergeMid.nD Cert.MergeMid.τ).loc Cert.MergeMid.main_arg9)
      ∧ r.2.mem ((c.tc : Thread Cert.MergeMid.nD Cert.MergeMid.τ).loc Cert.MergeMid.main_arg10) = m ((c.tc : Thread Cert.MergeMid.nD Cert.MergeMid.τ).loc Cert.MergeMid.main_arg10))
      ∧ r.2.sem = fun _ => 0)

def quiescent_MergeMidIdeal [hMergeMidIdeal : Cert.MergeMidIdeal.Facts] : Prop :=
  ∀ (m : (ℓ : Loc Cert.MergeMidIdeal.nD Cert.MergeMidIdeal.τ Cert.MergeMidIdeal.sig) → Buf (Elt Ideal) ℓ) (g : Dev Cert.MergeMidIdeal.nD → PrngReg), Pre_MergeMidIdeal m →
    θ_run (Cert.MergeMidIdeal.defs (F := Ideal)) (onTc (τ := Cert.MergeMidIdeal.τ) (Cert.MergeMidIdeal.main (F := Ideal))) ⟨m, fun _ => 0, g⟩ (fun r => (∀ c : Dev Cert.MergeMidIdeal.nD,
      r.2.mem ((c.tc : Thread Cert.MergeMidIdeal.nD Cert.MergeMidIdeal.τ).loc Cert.MergeMidIdeal.main_arg0) = m ((c.tc : Thread Cert.MergeMidIdeal.nD Cert.MergeMidIdeal.τ).loc Cert.MergeMidIdeal.main_arg0)
      ∧ r.2.mem ((c.tc : Thread Cert.MergeMidIdeal.nD Cert.MergeMidIdeal.τ).loc Cert.MergeMidIdeal.main_arg1) = m ((c.tc : Thread Cert.MergeMidIdeal.nD Cert.MergeMidIdeal.τ).loc Cert.MergeMidIdeal.main_arg1)
      ∧ r.2.mem ((c.tc : Thread Cert.MergeMidIdeal.nD Cert.MergeMidIdeal.τ).loc Cert.MergeMidIdeal.main_arg2) = m ((c.tc : Thread Cert.MergeMidIdeal.nD Cert.MergeMidIdeal.τ).loc Cert.MergeMidIdeal.main_arg2)
      ∧ r.2.mem ((c.tc : Thread Cert.MergeMidIdeal.nD Cert.MergeMidIdeal.τ).loc Cert.MergeMidIdeal.main_arg3) = m ((c.tc : Thread Cert.MergeMidIdeal.nD Cert.MergeMidIdeal.τ).loc Cert.MergeMidIdeal.main_arg3)
      ∧ r.2.mem ((c.tc : Thread Cert.MergeMidIdeal.nD Cert.MergeMidIdeal.τ).loc Cert.MergeMidIdeal.main_arg4) = m ((c.tc : Thread Cert.MergeMidIdeal.nD Cert.MergeMidIdeal.τ).loc Cert.MergeMidIdeal.main_arg4)
      ∧ r.2.mem ((c.tc : Thread Cert.MergeMidIdeal.nD Cert.MergeMidIdeal.τ).loc Cert.MergeMidIdeal.main_arg5) = m ((c.tc : Thread Cert.MergeMidIdeal.nD Cert.MergeMidIdeal.τ).loc Cert.MergeMidIdeal.main_arg5)
      ∧ r.2.mem ((c.tc : Thread Cert.MergeMidIdeal.nD Cert.MergeMidIdeal.τ).loc Cert.MergeMidIdeal.main_arg6) = m ((c.tc : Thread Cert.MergeMidIdeal.nD Cert.MergeMidIdeal.τ).loc Cert.MergeMidIdeal.main_arg6)
      ∧ r.2.mem ((c.tc : Thread Cert.MergeMidIdeal.nD Cert.MergeMidIdeal.τ).loc Cert.MergeMidIdeal.main_arg7) = m ((c.tc : Thread Cert.MergeMidIdeal.nD Cert.MergeMidIdeal.τ).loc Cert.MergeMidIdeal.main_arg7)
      ∧ r.2.mem ((c.tc : Thread Cert.MergeMidIdeal.nD Cert.MergeMidIdeal.τ).loc Cert.MergeMidIdeal.main_arg8) = m ((c.tc : Thread Cert.MergeMidIdeal.nD Cert.MergeMidIdeal.τ).loc Cert.MergeMidIdeal.main_arg8)
      ∧ r.2.mem ((c.tc : Thread Cert.MergeMidIdeal.nD Cert.MergeMidIdeal.τ).loc Cert.MergeMidIdeal.main_arg9) = m ((c.tc : Thread Cert.MergeMidIdeal.nD Cert.MergeMidIdeal.τ).loc Cert.MergeMidIdeal.main_arg9)
      ∧ r.2.mem ((c.tc : Thread Cert.MergeMidIdeal.nD Cert.MergeMidIdeal.τ).loc Cert.MergeMidIdeal.main_arg10) = m ((c.tc : Thread Cert.MergeMidIdeal.nD Cert.MergeMidIdeal.τ).loc Cert.MergeMidIdeal.main_arg10))
      ∧ r.2.sem = fun _ => 0)

def quiescent_MergeMidRefIdeal [hMergeMidRefIdeal : Cert.MergeMidRefIdeal.Facts] : Prop :=
  ∀ (m : (ℓ : Loc Cert.MergeMidRefIdeal.nD Cert.MergeMidRefIdeal.τ Cert.MergeMidRefIdeal.sig) → Buf (Elt Ideal) ℓ) (g : Dev Cert.MergeMidRefIdeal.nD → PrngReg), Pre_MergeMidRefIdeal m →
    θ_run (Cert.MergeMidRefIdeal.defs (F := Ideal)) (onTc (τ := Cert.MergeMidRefIdeal.τ) (Cert.MergeMidRefIdeal.main (F := Ideal))) ⟨m, fun _ => 0, g⟩ (fun r => (∀ c : Dev Cert.MergeMidRefIdeal.nD,
      r.2.mem ((c.tc : Thread Cert.MergeMidRefIdeal.nD Cert.MergeMidRefIdeal.τ).loc Cert.MergeMidRefIdeal.main_arg0) = m ((c.tc : Thread Cert.MergeMidRefIdeal.nD Cert.MergeMidRefIdeal.τ).loc Cert.MergeMidRefIdeal.main_arg0)
      ∧ r.2.mem ((c.tc : Thread Cert.MergeMidRefIdeal.nD Cert.MergeMidRefIdeal.τ).loc Cert.MergeMidRefIdeal.main_arg1) = m ((c.tc : Thread Cert.MergeMidRefIdeal.nD Cert.MergeMidRefIdeal.τ).loc Cert.MergeMidRefIdeal.main_arg1)
      ∧ r.2.mem ((c.tc : Thread Cert.MergeMidRefIdeal.nD Cert.MergeMidRefIdeal.τ).loc Cert.MergeMidRefIdeal.main_arg2) = m ((c.tc : Thread Cert.MergeMidRefIdeal.nD Cert.MergeMidRefIdeal.τ).loc Cert.MergeMidRefIdeal.main_arg2)
      ∧ r.2.mem ((c.tc : Thread Cert.MergeMidRefIdeal.nD Cert.MergeMidRefIdeal.τ).loc Cert.MergeMidRefIdeal.main_arg3) = m ((c.tc : Thread Cert.MergeMidRefIdeal.nD Cert.MergeMidRefIdeal.τ).loc Cert.MergeMidRefIdeal.main_arg3)
      ∧ r.2.mem ((c.tc : Thread Cert.MergeMidRefIdeal.nD Cert.MergeMidRefIdeal.τ).loc Cert.MergeMidRefIdeal.main_arg4) = m ((c.tc : Thread Cert.MergeMidRefIdeal.nD Cert.MergeMidRefIdeal.τ).loc Cert.MergeMidRefIdeal.main_arg4)
      ∧ r.2.mem ((c.tc : Thread Cert.MergeMidRefIdeal.nD Cert.MergeMidRefIdeal.τ).loc Cert.MergeMidRefIdeal.main_arg5) = m ((c.tc : Thread Cert.MergeMidRefIdeal.nD Cert.MergeMidRefIdeal.τ).loc Cert.MergeMidRefIdeal.main_arg5)
      ∧ r.2.mem ((c.tc : Thread Cert.MergeMidRefIdeal.nD Cert.MergeMidRefIdeal.τ).loc Cert.MergeMidRefIdeal.main_arg6) = m ((c.tc : Thread Cert.MergeMidRefIdeal.nD Cert.MergeMidRefIdeal.τ).loc Cert.MergeMidRefIdeal.main_arg6)
      ∧ r.2.mem ((c.tc : Thread Cert.MergeMidRefIdeal.nD Cert.MergeMidRefIdeal.τ).loc Cert.MergeMidRefIdeal.main_arg7) = m ((c.tc : Thread Cert.MergeMidRefIdeal.nD Cert.MergeMidRefIdeal.τ).loc Cert.MergeMidRefIdeal.main_arg7)
      ∧ r.2.mem ((c.tc : Thread Cert.MergeMidRefIdeal.nD Cert.MergeMidRefIdeal.τ).loc Cert.MergeMidRefIdeal.main_arg8) = m ((c.tc : Thread Cert.MergeMidRefIdeal.nD Cert.MergeMidRefIdeal.τ).loc Cert.MergeMidRefIdeal.main_arg8)
      ∧ r.2.mem ((c.tc : Thread Cert.MergeMidRefIdeal.nD Cert.MergeMidRefIdeal.τ).loc Cert.MergeMidRefIdeal.main_arg9) = m ((c.tc : Thread Cert.MergeMidRefIdeal.nD Cert.MergeMidRefIdeal.τ).loc Cert.MergeMidRefIdeal.main_arg9)
      ∧ r.2.mem ((c.tc : Thread Cert.MergeMidRefIdeal.nD Cert.MergeMidRefIdeal.τ).loc Cert.MergeMidRefIdeal.main_arg10) = m ((c.tc : Thread Cert.MergeMidRefIdeal.nD Cert.MergeMidRefIdeal.τ).loc Cert.MergeMidRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v66_0)) (v1 : (c : Dev Cert.InProjIdeal.nD) → Buf (Elt Ideal) ((c.tc : Thread Cert.InProjIdeal.nD Cert.InProjIdeal.τ).loc Cert.InProjIdeal.main_v66_1)) (v2 : (c : Dev Cert.InProjIdeal.nD) → Buf (Elt Ideal) ((c.tc : Thread Cert.InProjIdeal.nD Cert.InProjIdeal.τ).loc Cert.InProjIdeal.main_v66_2)) (v3 : (c : Dev Cert.InProjIdeal.nD) → Buf (Elt Ideal) ((c.tc : Thread Cert.InProjIdeal.nD Cert.InProjIdeal.τ).loc Cert.InProjIdeal.main_v66_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v66_0) = v0 c
          ∧ r.2.mem ((c.tc : Thread Cert.InProjIdeal.nD Cert.InProjIdeal.τ).loc Cert.InProjIdeal.main_v66_1) = v1 c
          ∧ r.2.mem ((c.tc : Thread Cert.InProjIdeal.nD Cert.InProjIdeal.τ).loc Cert.InProjIdeal.main_v66_2) = v2 c
          ∧ r.2.mem ((c.tc : Thread Cert.InProjIdeal.nD Cert.InProjIdeal.τ).loc Cert.InProjIdeal.main_v66_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v71) = v0 c
          ∧ r.2.mem ((c.tc : Thread Cert.InProjRefIdeal.nD Cert.InProjRefIdeal.τ).loc Cert.InProjRefIdeal.main_v72) = v1 c
          ∧ r.2.mem ((c.tc : Thread Cert.InProjRefIdeal.nD Cert.InProjRefIdeal.τ).loc Cert.InProjRefIdeal.main_v73) = v2 c
          ∧ r.2.mem ((c.tc : Thread Cert.InProjRefIdeal.nD Cert.InProjRefIdeal.τ).loc Cert.InProjRefIdeal.main_v70) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v78) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MergeMid_MergeMidIdeal : Prop :=
  True

def algebraic_MergeMidIdeal_MergeMidRefIdeal [hMergeMidIdeal : Cert.MergeMidIdeal.Facts] [hMergeMidRefIdeal : Cert.MergeMidRefIdeal.Facts] : Prop :=
  ∀ (m : (ℓ : Loc Cert.MergeMidIdeal.nD Cert.MergeMidIdeal.τ Cert.MergeMidIdeal.sig) → Buf (Elt Ideal) ℓ) (g : Dev Cert.MergeMidIdeal.nD → PrngReg)
    (m' : (ℓ : Loc Cert.MergeMidRefIdeal.nD Cert.MergeMidRefIdeal.τ Cert.MergeMidRefIdeal.sig) → Buf (Elt Ideal) ℓ) (g' : Dev Cert.MergeMidRefIdeal.nD → PrngReg), Pre_MergeMidIdeal m →
    (∀ c : Dev Cert.MergeMidIdeal.nD,
      m' ((c.tc : Thread Cert.MergeMidRefIdeal.nD Cert.MergeMidRefIdeal.τ).loc Cert.MergeMidRefIdeal.main_arg0) = m ((c.tc : Thread Cert.MergeMidIdeal.nD Cert.MergeMidIdeal.τ).loc Cert.MergeMidIdeal.main_arg0)
      ∧ m' ((c.tc : Thread Cert.MergeMidRefIdeal.nD Cert.MergeMidRefIdeal.τ).loc Cert.MergeMidRefIdeal.main_arg1) = m ((c.tc : Thread Cert.MergeMidIdeal.nD Cert.MergeMidIdeal.τ).loc Cert.MergeMidIdeal.main_arg1)
      ∧ m' ((c.tc : Thread Cert.MergeMidRefIdeal.nD Cert.MergeMidRefIdeal.τ).loc Cert.MergeMidRefIdeal.main_arg2) = m ((c.tc : Thread Cert.MergeMidIdeal.nD Cert.MergeMidIdeal.τ).loc Cert.MergeMidIdeal.main_arg2)
      ∧ m' ((c.tc : Thread Cert.MergeMidRefIdeal.nD Cert.MergeMidRefIdeal.τ).loc Cert.MergeMidRefIdeal.main_arg3) = m ((c.tc : Thread Cert.MergeMidIdeal.nD Cert.MergeMidIdeal.τ).loc Cert.MergeMidIdeal.main_arg3)
      ∧ m' ((c.tc : Thread Cert.MergeMidRefIdeal.nD Cert.MergeMidRefIdeal.τ).loc Cert.MergeMidRefIdeal.main_arg4) = m ((c.tc : Thread Cert.MergeMidIdeal.nD Cert.MergeMidIdeal.τ).loc Cert.MergeMidIdeal.main_arg4)
      ∧ m' ((c.tc : Thread Cert.MergeMidRefIdeal.nD Cert.MergeMidRefIdeal.τ).loc Cert.MergeMidRefIdeal.main_arg5) = m ((c.tc : Thread Cert.MergeMidIdeal.nD Cert.MergeMidIdeal.τ).loc Cert.MergeMidIdeal.main_arg5)
      ∧ m' ((c.tc : Thread Cert.MergeMidRefIdeal.nD Cert.MergeMidRefIdeal.τ).loc Cert.MergeMidRefIdeal.main_arg6) = m ((c.tc : Thread Cert.MergeMidIdeal.nD Cert.MergeMidIdeal.τ).loc Cert.MergeMidIdeal.main_arg6)
      ∧ m' ((c.tc : Thread Cert.MergeMidRefIdeal.nD Cert.MergeMidRefIdeal.τ).loc Cert.MergeMidRefIdeal.main_arg7) = m ((c.tc : Thread Cert.MergeMidIdeal.nD Cert.MergeMidIdeal.τ).loc Cert.MergeMidIdeal.main_arg7)
      ∧ m' ((c.tc : Thread Cert.MergeMidRefIdeal.nD Cert.MergeMidRefIdeal.τ).loc Cert.MergeMidRefIdeal.main_arg8) = m ((c.tc : Thread Cert.MergeMidIdeal.nD Cert.MergeMidIdeal.τ).loc Cert.MergeMidIdeal.main_arg8)
      ∧ m' ((c.tc : Thread Cert.MergeMidRefIdeal.nD Cert.MergeMidRefIdeal.τ).loc Cert.MergeMidRefIdeal.main_arg9) = m ((c.tc : Thread Cert.MergeMidIdeal.nD Cert.MergeMidIdeal.τ).loc Cert.MergeMidIdeal.main_arg9)
      ∧ m' ((c.tc : Thread Cert.MergeMidRefIdeal.nD Cert.MergeMidRefIdeal.τ).loc Cert.MergeMidRefIdeal.main_arg10) = m ((c.tc : Thread Cert.MergeMidIdeal.nD Cert.MergeMidIdeal.τ).loc Cert.MergeMidIdeal.main_arg10)) →
    ∃ (v0 : (c : Dev Cert.MergeMidIdeal.nD) → Buf (Elt Ideal) ((c.tc : Thread Cert.MergeMidIdeal.nD Cert.MergeMidIdeal.τ).loc Cert.MergeMidIdeal.main_v1_0)) (v1 : (c : Dev Cert.MergeMidIdeal.nD) → Buf (Elt Ideal) ((c.tc : Thread Cert.MergeMidIdeal.nD Cert.MergeMidIdeal.τ).loc Cert.MergeMidIdeal.main_v1_1)),
      θ_run (Cert.MergeMidIdeal.defs (F := Ideal)) (onTc (τ := Cert.MergeMidIdeal.τ) (Cert.MergeMidIdeal.main (F := Ideal))) ⟨m, fun _ => 0, g⟩ (fun r => ∀ c : Dev Cert.MergeMidIdeal.nD,
          r.2.mem ((c.tc : Thread Cert.MergeMidIdeal.nD Cert.MergeMidIdeal.τ).loc Cert.MergeMidIdeal.main_v1_0) = v0 c
          ∧ r.2.mem ((c.tc : Thread Cert.MergeMidIdeal.nD Cert.MergeMidIdeal.τ).loc Cert.MergeMidIdeal.main_v1_1) = v1 c
          ∧ r.2.mem ((c.tc : Thread Cert.MergeMidIdeal.nD Cert.MergeMidIdeal.τ).loc Cert.MergeMidIdeal.main_arg0) = m ((c.tc : Thread Cert.MergeMidIdeal.nD Cert.MergeMidIdeal.τ).loc Cert.MergeMidIdeal.main_arg0)
          ∧ r.2.mem ((c.tc : Thread Cert.MergeMidIdeal.nD Cert.MergeMidIdeal.τ).loc Cert.MergeMidIdeal.main_arg1) = m ((c.tc : Thread Cert.MergeMidIdeal.nD Cert.MergeMidIdeal.τ).loc Cert.MergeMidIdeal.main_arg1)
          ∧ r.2.mem ((c.tc : Thread Cert.MergeMidIdeal.nD Cert.MergeMidIdeal.τ).loc Cert.MergeMidIdeal.main_arg2) = m ((c.tc : Thread Cert.MergeMidIdeal.nD Cert.MergeMidIdeal.τ).loc Cert.MergeMidIdeal.main_arg2)
          ∧ r.2.mem ((c.tc : Thread Cert.MergeMidIdeal.nD Cert.MergeMidIdeal.τ).loc Cert.MergeMidIdeal.main_arg3) = m ((c.tc : Thread Cert.MergeMidIdeal.nD Cert.MergeMidIdeal.τ).loc Cert.MergeMidIdeal.main_arg3)
          ∧ r.2.mem ((c.tc : Thread Cert.MergeMidIdeal.nD Cert.MergeMidIdeal.τ).loc Cert.MergeMidIdeal.main_arg4) = m ((c.tc : Thread Cert.MergeMidIdeal.nD Cert.MergeMidIdeal.τ).loc Cert.MergeMidIdeal.main_arg4)
          ∧ r.2.mem ((c.tc : Thread Cert.MergeMidIdeal.nD Cert.MergeMidIdeal.τ).loc Cert.MergeMidIdeal.main_arg5) = m ((c.tc : Thread Cert.MergeMidIdeal.nD Cert.MergeMidIdeal.τ).loc Cert.MergeMidIdeal.main_arg5)
          ∧ r.2.mem ((c.tc : Thread Cert.MergeMidIdeal.nD Cert.MergeMidIdeal.τ).loc Cert.MergeMidIdeal.main_arg6) = m ((c.tc : Thread Cert.MergeMidIdeal.nD Cert.MergeMidIdeal.τ).loc Cert.MergeMidIdeal.main_arg6)
          ∧ r.2.mem ((c.tc : Thread Cert.MergeMidIdeal.nD Cert.MergeMidIdeal.τ).loc Cert.MergeMidIdeal.main_arg7) = m ((c.tc : Thread Cert.MergeMidIdeal.nD Cert.MergeMidIdeal.τ).loc Cert.MergeMidIdeal.main_arg7)
          ∧ r.2.mem ((c.tc : Thread Cert.MergeMidIdeal.nD Cert.MergeMidIdeal.τ).loc Cert.MergeMidIdeal.main_arg8) = m ((c.tc : Thread Cert.MergeMidIdeal.nD Cert.MergeMidIdeal.τ).loc Cert.MergeMidIdeal.main_arg8)
          ∧ r.2.mem ((c.tc : Thread Cert.MergeMidIdeal.nD Cert.MergeMidIdeal.τ).loc Cert.MergeMidIdeal.main_arg9) = m ((c.tc : Thread Cert.MergeMidIdeal.nD Cert.MergeMidIdeal.τ).loc Cert.MergeMidIdeal.main_arg9)
          ∧ r.2.mem ((c.tc : Thread Cert.MergeMidIdeal.nD Cert.MergeMidIdeal.τ).loc Cert.MergeMidIdeal.main_arg10) = m ((c.tc : Thread Cert.MergeMidIdeal.nD Cert.MergeMidIdeal.τ).loc Cert.MergeMidIdeal.main_arg10))
      ∧ θ_run (Cert.MergeMidRefIdeal.defs (F := Ideal)) (onTc (τ := Cert.MergeMidRefIdeal.τ) (Cert.MergeMidRefIdeal.main (F := Ideal))) ⟨m', fun _ => 0, g'⟩ (fun r => ∀ c : Dev Cert.MergeMidRefIdeal.nD,
          r.2.mem ((c.tc : Thread Cert.MergeMidRefIdeal.nD Cert.MergeMidRefIdeal.τ).loc Cert.MergeMidRefIdeal.main_v63) = v0 c
          ∧ r.2.mem ((c.tc : Thread Cert.MergeMidRefIdeal.nD Cert.MergeMidRefIdeal.τ).loc Cert.MergeMidRefIdeal.main_v78) = v1 c
          ∧ r.2.mem ((c.tc : Thread Cert.MergeMidRefIdeal.nD Cert.MergeMidRefIdeal.τ).loc Cert.MergeMidRefIdeal.main_arg0) = m' ((c.tc : Thread Cert.MergeMidRefIdeal.nD Cert.MergeMidRefIdeal.τ).loc Cert.MergeMidRefIdeal.main_arg0)
          ∧ r.2.mem ((c.tc : Thread Cert.MergeMidRefIdeal.nD Cert.MergeMidRefIdeal.τ).loc Cert.MergeMidRefIdeal.main_arg1) = m' ((c.tc : Thread Cert.MergeMidRefIdeal.nD Cert.MergeMidRefIdeal.τ).loc Cert.MergeMidRefIdeal.main_arg1)
          ∧ r.2.mem ((c.tc : Thread Cert.MergeMidRefIdeal.nD Cert.MergeMidRefIdeal.τ).loc Cert.MergeMidRefIdeal.main_arg2) = m' ((c.tc : Thread Cert.MergeMidRefIdeal.nD Cert.MergeMidRefIdeal.τ).loc Cert.MergeMidRefIdeal.main_arg2)
          ∧ r.2.mem ((c.tc : Thread Cert.MergeMidRefIdeal.nD Cert.MergeMidRefIdeal.τ).loc Cert.MergeMidRefIdeal.main_arg3) = m' ((c.tc : Thread Cert.MergeMidRefIdeal.nD Cert.MergeMidRefIdeal.τ).loc Cert.MergeMidRefIdeal.main_arg3)
          ∧ r.2.mem ((c.tc : Thread Cert.MergeMidRefIdeal.nD Cert.MergeMidRefIdeal.τ).loc Cert.MergeMidRefIdeal.main_arg4) = m' ((c.tc : Thread Cert.MergeMidRefIdeal.nD Cert.MergeMidRefIdeal.τ).loc Cert.MergeMidRefIdeal.main_arg4)
          ∧ r.2.mem ((c.tc : Thread Cert.MergeMidRefIdeal.nD Cert.MergeMidRefIdeal.τ).loc Cert.MergeMidRefIdeal.main_arg5) = m' ((c.tc : Thread Cert.MergeMidRefIdeal.nD Cert.MergeMidRefIdeal.τ).loc Cert.MergeMidRefIdeal.main_arg5)
          ∧ r.2.mem ((c.tc : Thread Cert.MergeMidRefIdeal.nD Cert.MergeMidRefIdeal.τ).loc Cert.MergeMidRefIdeal.main_arg6) = m' ((c.tc : Thread Cert.MergeMidRefIdeal.nD Cert.MergeMidRefIdeal.τ).loc Cert.MergeMidRefIdeal.main_arg6)
          ∧ r.2.mem ((c.tc : Thread Cert.MergeMidRefIdeal.nD Cert.MergeMidRefIdeal.τ).loc Cert.MergeMidRefIdeal.main_arg7) = m' ((c.tc : Thread Cert.MergeMidRefIdeal.nD Cert.MergeMidRefIdeal.τ).loc Cert.MergeMidRefIdeal.main_arg7)
          ∧ r.2.mem ((c.tc : Thread Cert.MergeMidRefIdeal.nD Cert.MergeMidRefIdeal.τ).loc Cert.MergeMidRefIdeal.main_arg8) = m' ((c.tc : Thread Cert.MergeMidRefIdeal.nD Cert.MergeMidRefIdeal.τ).loc Cert.MergeMidRefIdeal.main_arg8)
          ∧ r.2.mem ((c.tc : Thread Cert.MergeMidRefIdeal.nD Cert.MergeMidRefIdeal.τ).loc Cert.MergeMidRefIdeal.main_arg9) = m' ((c.tc : Thread Cert.MergeMidRefIdeal.nD Cert.MergeMidRefIdeal.τ).loc Cert.MergeMidRefIdeal.main_arg9)
          ∧ r.2.mem ((c.tc : Thread Cert.MergeMidRefIdeal.nD Cert.MergeMidRefIdeal.τ).loc Cert.MergeMidRefIdeal.main_arg10) = m' ((c.tc : Thread Cert.MergeMidRefIdeal.nD Cert.MergeMidRefIdeal.τ).loc Cert.MergeMidRefIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hNorm : Cert.Norm.Facts) (hNormIdeal : Cert.NormIdeal.Facts) (hNormRefIdeal : Cert.NormRefIdeal.Facts) (hMergeMid : Cert.MergeMid.Facts) (hMergeMidIdeal : Cert.MergeMidIdeal.Facts) (hMergeMidRefIdeal : Cert.MergeMidRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Norm (hNorm := hNorm)
    ∧ quiescent_NormIdeal (hNormIdeal := hNormIdeal)
    ∧ quiescent_NormRefIdeal (hNormRefIdeal := hNormRefIdeal)
    ∧ quiescent_MergeMid (hMergeMid := hMergeMid)
    ∧ quiescent_MergeMidIdeal (hMergeMidIdeal := hMergeMidIdeal)
    ∧ quiescent_MergeMidRefIdeal (hMergeMidRefIdeal := hMergeMidRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_Norm_NormIdeal
    ∧ algebraic_NormIdeal_NormRefIdeal (hNormIdeal := hNormIdeal) (hNormRefIdeal := hNormRefIdeal)
    ∧ preserves_MergeMid_MergeMidIdeal
    ∧ algebraic_MergeMidIdeal_MergeMidRefIdeal (hMergeMidIdeal := hMergeMidIdeal) (hMergeMidRefIdeal := hMergeMidRefIdeal)
-- ==== Kernel.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1536 : Shape := ⟨2, ![1024, 1536]⟩
abbrev S1024x3072 : Shape := ⟨2, ![1024, 3072]⟩
abbrev S3x512x1024 : Shape := ⟨3, ![3, 512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S256x1024 : Shape := ⟨2, ![256, 1024]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩

abbrev nBuf : Space → Nat
  | .hbm => 13
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .bf16⟩
  | .hbm, ⟨3, _⟩ => ⟨S512x1024, .bf16⟩
  | .hbm, ⟨4, _⟩ => ⟨S1024x512, .bf16⟩
  | .hbm, ⟨5, _⟩ => ⟨S1024x1536, .bf16⟩
  | .hbm, ⟨6, _⟩ => ⟨S1024x3072, .bf16⟩
  | .hbm, ⟨7, _⟩ => ⟨S3x512x1024, .bf16⟩
  | .hbm, ⟨8, _⟩ => ⟨S1024x1024, .bf16⟩
  | .hbm, ⟨9, _⟩ => ⟨S16384x1024, .f32⟩
  | .hbm, ⟨10, _⟩ => ⟨S1024, .f32⟩
  | .hbm, ⟨11, _⟩ => ⟨S1x1024, .f32⟩
  | .hbm, ⟨12, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x512, .bf16⟩
  | .local _ .vmem, ⟨9, _⟩ => ⟨S1024x1536, .bf16⟩
  | .local _ .vmem, ⟨10, _⟩ => ⟨S1024x3072, .bf16⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1536 : Shape := ⟨2, ![1024, 1536]⟩
abbrev S1024x3072 : Shape := ⟨2, ![1024, 3072]⟩
abbrev S3x512x1024 : Shape := ⟨3, ![3, 512, 1024]⟩
abbrev S1024x1024 : Shape := ⟨2, ![1024, 1024]⟩
abbrev S1024 : Shape := ⟨1, ![1024]⟩
abbrev S2x8192x1024 : Shape := ⟨3, ![2, 8192, 1024]⟩
abbrev S2x8192x1536 : Shape := ⟨3, ![2, 8192, 1536]⟩
abbrev S2x8192x512 : Shape := ⟨3, ![2, 8192, 512]⟩
abbrev S2x8192x3072 : Shape := ⟨3, ![2, 8192, 3072]⟩
abbrev S_ : Shape := ⟨0, ![]⟩
abbrev S2x8192x4x128 : Shape := ⟨4, ![2, 8192, 4, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x1x512 : Shape := ⟨4, ![2, 8192, 1, 512]⟩
abbrev S2x8192x3x512 : Shape := ⟨4, ![2, 8192, 3, 512]⟩
abbrev S3x1024x2x8192 : Shape := ⟨4, ![3, 1024, 2, 8192]⟩
abbrev S2x8192x3x1024 : Shape := ⟨4, ![2, 8192, 3, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 122
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .bf16⟩
  | .hbm, ⟨3, _⟩ => ⟨S512x1024, .bf16⟩
  | .hbm, ⟨4, _⟩ => ⟨S1024x512, .bf16⟩
  | .hbm, ⟨5, _⟩ => ⟨S1024x1536, .bf16⟩
  | .hbm, ⟨6, _⟩ => ⟨S1024x3072, .bf16⟩
  | .hbm, ⟨7, _⟩ => ⟨S3x512x1024, .bf16⟩
  | .hbm, ⟨8, _⟩ => ⟨S1024x1024, .bf16⟩
  | .hbm, ⟨9, _⟩ => ⟨S16384x1024, .f32⟩
  | .hbm, ⟨10, _⟩ => ⟨S1024, .f32⟩
  | .hbm, ⟨11, _⟩ => ⟨S16384x1024, .f32⟩
  | .hbm, ⟨12, _⟩ => ⟨S2x8192x1024, .f32⟩
  | .hbm, ⟨13, _⟩ => ⟨S1024x1536, .f32⟩
  | .hbm, ⟨14, _⟩ => ⟨S2x8192x1536, .f32⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S1024x3072, .f32⟩
  | .hbm, ⟨19, _⟩ => ⟨S2x8192x3072, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S_, .f32⟩
  | .hbm, ⟨24, _⟩ => ⟨S2x8192x512, .f32⟩
  | .hbm, ⟨25, _⟩ => ⟨S2x8192x512, .f32⟩
  | .hbm, ⟨26, _⟩ => ⟨S_, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S_, .f32⟩
  | .hbm, ⟨35, _⟩ => ⟨S2x8192x512, .f32⟩
  | .hbm, ⟨36, _⟩ => ⟨S2x8192x512, .f32⟩
  | .hbm, ⟨37, _⟩ => ⟨S_, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S1024x512, .f32⟩
  | .hbm, ⟨43, _⟩ => ⟨S2x8192x512, .f32⟩
  | .hbm, ⟨44, _⟩ => ⟨S2x8192x4x128, .f32⟩
  | .hbm, ⟨45, _⟩ => ⟨S512x1024, .f32⟩
  | .hbm, ⟨46, _⟩ => ⟨S2x256x1024, .f32⟩
  | .hbm, ⟨47, _⟩ => ⟨S2x256x512, .f32⟩
  | .hbm, ⟨48, _⟩ => ⟨S2x256x512, .f32⟩
  | .hbm, ⟨49, _⟩ => ⟨S2x256x4x128, .f32⟩
  | .hbm, ⟨50, _⟩ => ⟨S2x256x4x128, .f32⟩
  | .hbm, ⟨51, _⟩ => ⟨S2x4x8192x256, .f32⟩
  | .hbm, ⟨52, _⟩ => ⟨S_, .f32⟩
  | .hbm, ⟨53, _⟩ => ⟨S2x4x8192x256, .f32⟩
  | .hbm, ⟨54, _⟩ => ⟨S2x4x8192x256, .f32⟩
  | .hbm, ⟨55, _⟩ => ⟨S_, .f32⟩
  | .hbm, ⟨56, _⟩ => ⟨S2x4x8192, .f32⟩
  | .hbm, ⟨57, _⟩ => ⟨S_, .f32⟩
  | .hbm, ⟨58, _⟩ => ⟨S2x4x8192, .f32⟩
  | .hbm, ⟨59, _⟩ => ⟨S2x4x8192, .f32⟩
  | .hbm, ⟨60, _⟩ => ⟨S2x4x8192x1, .f32⟩
  | .hbm, ⟨61, _⟩ => ⟨S2x4x8192x256, .f32⟩
  | .hbm, ⟨62, _⟩ => ⟨S2x4x8192x256, .f32⟩
  | .hbm, ⟨63, _⟩ => ⟨S2x4x8192x256, .f32⟩
  | .hbm, ⟨64, _⟩ => ⟨S_, .f32⟩
  | .hbm, ⟨65, _⟩ => ⟨S2x4x8192, .f32⟩
  | .hbm, ⟨66, _⟩ => ⟨S2x4x8192x1, .f32⟩
  | .hbm, ⟨67, _⟩ => ⟨S2x4x8192x256, .f32⟩
  | .hbm, ⟨68, _⟩ => ⟨S2x4x8192x256, .f32⟩
  | .hbm, ⟨69, _⟩ => ⟨S2x4x128x8192, .f32⟩
  | .hbm, ⟨70, _⟩ => ⟨S2x8192x4x128, .f32⟩
  | .hbm, ⟨71, _⟩ => ⟨S2x8192x512, .f32⟩
  | .hbm, ⟨72, _⟩ => ⟨S2x8192x512, .f32⟩
  | .hbm, ⟨73, _⟩ => ⟨S2x8192x512, .f32⟩
  | .hbm, ⟨74, _⟩ => ⟨S_, .f32⟩
  | .hbm, ⟨75, _⟩ => ⟨S2x8192x512, .f32⟩
  | .hbm, ⟨76, _⟩ => ⟨S2x8192x512, .f32⟩
  | .hbm, ⟨77, _⟩ => ⟨S_, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S2x8192x512, .f32⟩
  | .hbm, ⟨82, _⟩ => ⟨S2x8192x1x512, .f32⟩
  | .hbm, ⟨83, _⟩ => ⟨S2x8192x1x512, .f32⟩
  | .hbm, ⟨84, _⟩ => ⟨S2x8192x1x512, .f32⟩
  | .hbm, ⟨85, _⟩ => ⟨S2x8192x3x512, .f32⟩
  | .hbm, ⟨86, _⟩ => ⟨S3x512x1024, .f32⟩
  | .hbm, ⟨87, _⟩ => ⟨S3x1024x2x8192, .f32⟩
  | .hbm, ⟨88, _⟩ => ⟨S2x8192x3x1024, .f32⟩
  | .hbm, ⟨89, _⟩ => ⟨S2x8192x3x1024, .f32⟩
  | .hbm, ⟨90, _⟩ => ⟨S2x8192x3x1024, .f32⟩
  | .hbm, ⟨91, _⟩ => ⟨S2x8192x3x1024, .f32⟩
  | .hbm, ⟨92, _⟩ => ⟨S_, .f32⟩
  | .hbm, ⟨93, _⟩ => ⟨S2x8192x3x1024, .f32⟩
  | .hbm, ⟨94, _⟩ => ⟨S2x8192x3x1024, .f32⟩
  | .hbm, ⟨95, _⟩ => ⟨S_, .f32⟩
  | .hbm, ⟨96, _⟩ => ⟨S2x8192x3x1024, .f32⟩
  | .hbm, ⟨97, _⟩ => ⟨S2x8192x3x1024, .f32⟩
  | .hbm, ⟨98, _⟩ => ⟨S2x8192x3x1024, .f32⟩
  | .hbm, ⟨99, _⟩ => ⟨S_, .f32⟩
  | .hbm, ⟨100, _⟩ => ⟨S2x8192x1024, .f32⟩
  | .hbm, ⟨101, _⟩ => ⟨S2x8192x1024, .f32⟩
  | .hbm, ⟨102, _⟩ => ⟨S1024x1024, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S_, .f32⟩
  | .hbm, ⟨107, _⟩ => ⟨S2x8192, .f32⟩
  | .hbm, ⟨108, _⟩ => ⟨S2x8192x1, .f32⟩
  | .hbm, ⟨109, _⟩ => ⟨S_, .f32⟩
  | .hbm, ⟨110, _⟩ => ⟨S2x8192x1, .f32⟩
  | .hbm, ⟨111, _⟩ => ⟨S2x8192x1, .f32⟩
  | .hbm, ⟨112, _⟩ => ⟨S_, .f32⟩
  | .hbm, ⟨113, _⟩ => ⟨S2x8192x1, .f32⟩
  | .hbm, ⟨114, _⟩ => ⟨S2x8192x1, .f32⟩
  | .hbm, ⟨115, _⟩ => ⟨S2x8192x1, .f32⟩
  | .hbm, ⟨116, _⟩ => ⟨S2x8192x1024, .f32⟩
  | .hbm, ⟨117, _⟩ => ⟨S2x8192x1024, .f32⟩
  | .hbm, ⟨118, _⟩ => ⟨S1x1x1024, .f32⟩
  | .hbm, ⟨119, _⟩ => ⟨S2x8192x1024, .f32⟩
  | .hbm, ⟨120, _⟩ => ⟨S2x8192x1024, .f32⟩
  | .hbm, ⟨121, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_cst_1 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_3 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_5 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_6 : Ref sig .tc := ⟨.hbm, 106, rfl⟩
abbrev main_v64 : Ref sig .tc := ⟨.hbm, 107, rfl⟩
abbrev main_v65 : Ref sig .tc := ⟨.hbm, 108, rfl⟩
abbrev main_cst_7 : Ref sig .tc := ⟨.hbm, 109, rfl⟩
abbrev main_v66 : Ref sig .tc := ⟨.hbm, 110, rfl⟩
abbrev main_v67 : Ref sig .tc := ⟨.hbm, 111, rfl⟩
abbrev main_cst_8 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩

abbrev nD : Nat := 1
abbrev τ : Topo := Topo.v7x

variable {F : FTy → Type} [FloatOps F]
-- ==== InProj.lean ====
abbrev S16384x1024 : Shape := ⟨2, ![16384, 1024]⟩
abbrev S1024x8776 : Shape := ⟨2, ![1024, 8776]⟩
abbrev S128 : Shape := ⟨1, ![128]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x128 : Shape := ⟨2, ![1, 128]⟩
abbrev S128x1 : Shape := ⟨2, ![128, 1]⟩
abbrev S8192x128 : Shape := ⟨2, ![8192, 128]⟩
abbrev S8x8192 : Shape := ⟨2, ![8, 8192]⟩
abbrev S1024x512 : Shape := ⟨2, ![1024, 512]⟩
abbrev S1024x64 : Shape := ⟨2, ![1024, 64]⟩
abbrev S1024x1152 : Shape := ⟨2, ![1024, 1152]⟩
abbrev S1024x1536 : Shape := ⟨2, ![1024, 1536]⟩
abbrev S1536x1024 : Shape := ⟨2, ![1536, 1024]⟩
abbrev S1024x1024 : Shape := ⟨2, ![1024, 1024]⟩
abbrev S1024x8 : Shape := ⟨2, ![1024, 8]⟩
abbrev S8x1024 : Shape := ⟨2, ![8, 1024]⟩
abbrev S16x1024 : Shape := ⟨2, ![16, 1024]⟩
abbrev S16384x1152 : Shape := ⟨2, ![16384, 1152]⟩
abbrev S1536x16384 : Shape := ⟨2, ![1536, 16384]⟩
abbrev S1024x16384 : Shape := ⟨2, ![1024, 16384]⟩
abbrev S16x16384 : Shape := ⟨2, ![16, 16384]⟩
abbrev S1024x128 : Shape := ⟨2, ![1024, 128]⟩
abbrev S512x1024 : Shape := ⟨2, ![512, 1024]⟩
abbrev S48x1024 : Shape := ⟨2, ![48, 1024]⟩

abbrev nBuf : Space → Nat
  | .hbm => 101
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S1024x8776, .f32⟩
  | .hbm, ⟨2, _⟩ => ⟨S128, .i1⟩
  | .hbm, ⟨3, _⟩ => ⟨S128, .i1⟩
  | .hbm, ⟨4, _⟩ => ⟨S128, .i1⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S128, .i1⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .i32⟩
  | .hbm, ⟨18, _⟩ => ⟨S8192, .f32⟩
  | .hbm, ⟨19, _⟩ => ⟨S8192x1, .f32⟩
  | .hbm, ⟨20, _⟩ => ⟨S1x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S1x128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S8192x128, .f32⟩
  | .hbm, ⟨33, _⟩ => ⟨S_, .f32⟩
  | .hbm, ⟨34, _⟩ => ⟨S_, .f32⟩
  | .hbm, ⟨35, _⟩ => ⟨S8192x128, .i1⟩
  | .hbm, ⟨36, _⟩ => ⟨S8192x128, .f32⟩
  | .hbm, ⟨37, _⟩ => ⟨S8192x128, .f32⟩
  | .hbm, ⟨38, _⟩ => ⟨S1x128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S_, .f32⟩
  | .hbm, ⟨48, _⟩ => ⟨S8192x128, .i1⟩
  | .hbm, ⟨49, _⟩ => ⟨S8192x128, .f32⟩
  | .hbm, ⟨50, _⟩ => ⟨S8192x128, .f32⟩
  | .hbm, ⟨51, _⟩ => ⟨S1x128, .i1⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S128x1, .i32⟩
  | .hbm, ⟨57, _⟩ => ⟨S8192x128, .f32⟩
  | .hbm, ⟨58, _⟩ => ⟨S_, .f32⟩
  | .hbm, ⟨59, _⟩ => ⟨S_, .f32⟩
  | .hbm, ⟨60, _⟩ => ⟨S8192x128, .i1⟩
  | .hbm, ⟨61, _⟩ => ⟨S8192x128, .f32⟩
  | .hbm, ⟨62, _⟩ => ⟨S8192x128, .f32⟩
  | .hbm, ⟨63, _⟩ => ⟨S8x8192, .f32⟩
  | .hbm, ⟨64, _⟩ => ⟨S8x8192, .f32⟩
  | .hbm, ⟨65, _⟩ => ⟨S1024x512, .f32⟩
  | .hbm, ⟨66, _⟩ => ⟨S1024x512, .f32⟩
  | .hbm, ⟨67, _⟩ => ⟨S1024x64, .f32⟩
  | .hbm, ⟨68, _⟩ => ⟨S1024x64, .f32⟩
  | .hbm, ⟨69, _⟩ => ⟨S1024x1152, .f32⟩
  | .hbm, ⟨70, _⟩ => ⟨S1024x1152, .bf16⟩
  | .hbm, ⟨71, _⟩ => ⟨S1024x512, .f32⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S1024x512, .f32⟩
  | .hbm, ⟨76, _⟩ => ⟨S_, .f32⟩
  | .hbm, ⟨77, _⟩ => ⟨S1024x512, .f32⟩
  | .hbm, ⟨78, _⟩ => ⟨S1024x512, .f32⟩
  | .hbm, ⟨79, _⟩ => ⟨S1024x512, .f32⟩
  | .hbm, ⟨80, _⟩ => ⟨S_, .f32⟩
  | .hbm, ⟨81, _⟩ => ⟨S1024x512, .f32⟩
  | .hbm, ⟨82, _⟩ => ⟨S1024x512, .f32⟩
  | .hbm, ⟨83, _⟩ => ⟨S1024x1536, .f32⟩
  | .hbm, ⟨84, _⟩ => ⟨S1536x1024, .f32⟩
  | .hbm, ⟨85, _⟩ => ⟨S1536x1024, .bf16⟩
  | .hbm, ⟨86, _⟩ => ⟨S1024x512, .f32⟩
  | .hbm, ⟨87, _⟩ => ⟨S1024x512, .f32⟩
  | .hbm, ⟨88, _⟩ => ⟨S1024x1024, .f32⟩
  | .hbm, ⟨89, _⟩ => ⟨S1024x1024, .f32⟩
  | .hbm, ⟨90, _⟩ => ⟨S1024x1024, .bf16⟩
  | .hbm, ⟨91, _⟩ => ⟨S1024x8, .f32⟩
  | .hbm, ⟨92, _⟩ => ⟨S8x1024, .f32⟩
  | .hbm, ⟨93, _⟩ => ⟨S_, .i32⟩
  | .hbm, ⟨94, _⟩ => ⟨S_, .f32⟩
  | .hbm, ⟨95, _⟩ => ⟨S16x1024, .f32⟩
  | .hbm, ⟨96, _⟩ => ⟨S16x1024, .bf16⟩
  | .hbm, ⟨97, _⟩ => ⟨S16384x1152, .bf16⟩
  | .hbm, ⟨98, _⟩ => ⟨S1536x16384, .bf16⟩
  | .hbm, ⟨99, _⟩ => ⟨S1024x16384, .bf16⟩
  | .hbm, ⟨100, _⟩ => ⟨S16x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1536x1024, .bf16⟩
  | .local _ .vmem, ⟨4, _⟩ => ⟨S1024x1024, .bf16⟩
  | .local _ .vmem, ⟨5, _⟩ => ⟨S16x1024, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S1024x1152, .bf16⟩
  | .local _ .vmem, ⟨17, _⟩ => ⟨S1024x1152, .bf16⟩
  | .local _ .vmem, ⟨18, _⟩ => ⟨S1536x1024, .bf16⟩
  | .local _ .vmem, ⟨19, _⟩ => ⟨S1536x1024, .bf16⟩
  | .local _ .vmem, ⟨20, _⟩ => ⟨S1024x1024, .bf16⟩
  | .local _ .vmem, ⟨21, _⟩ => ⟨S1024x1024, .bf16⟩
  | .local _ .vmem, ⟨22, _⟩ => ⟨S16x1024, .f32⟩
  | .local _ .vmem, ⟨23, _⟩ => ⟨S16x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_6 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_7 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_16 : Ref sig .tc := ⟨.hbm, 93, rfl⟩
abbrev main_call3_v0 : Ref sig .tc := ⟨.hbm, 94, rfl⟩
abbrev main_v64 : Ref sig .tc := ⟨.hbm, 95, rfl⟩
abbrev main_v65 : Ref sig .tc := ⟨.hbm, 96, rfl⟩
abbrev main_v66_0 : Ref sig .tc := ⟨.hbm, 97, rfl⟩
abbrev main_v66_1 : Ref sig .tc := ⟨.hbm, 98, rfl⟩
abbrev main_v66_2 : Ref sig .tc := ⟨.hbm, 99, rfl⟩
abbrev main_v66_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1152 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1536x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjRefIdeal.lean ====
abbrev S16384x1024 : Shape := ⟨2, ![16384, 1024]⟩
abbrev S1024x8776 : Shape := ⟨2, ![1024, 8776]⟩
abbrev S2x8192x1024 : Shape := ⟨3, ![2, 8192, 1024]⟩
abbrev S2x8192x8776 : Shape := ⟨3, ![2, 8192, 8776]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x1088 : Shape := ⟨3, ![2, 8192, 1088]⟩
abbrev S2x8192x1536 : Shape := ⟨3, ![2, 8192, 1536]⟩
abbrev S2x8192x2624 : Shape := ⟨3, ![2, 8192, 2624]⟩
abbrev S2x8192x41x64 : Shape := ⟨4, ![2, 8192, 41, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x41x8 : Shape := ⟨4, ![2, 8192, 41, 8]⟩
abbrev S1x8192x1x8 : Shape := ⟨4, ![1, 8192, 1, 8]⟩
abbrev S2x8192x41x48 : Shape := ⟨4, ![2, 8192, 41, 48]⟩
abbrev S16384x2624 : Shape := ⟨2, ![16384, 2624]⟩
abbrev S16384x1088 : Shape := ⟨2, ![16384, 1088]⟩
abbrev S16384x64 : Shape := ⟨2, ![16384, 64]⟩
abbrev S16384x1152 : Shape := ⟨2, ![16384, 1152]⟩
abbrev S16384x512 : Shape := ⟨2, ![16384, 512]⟩
abbrev S16384x1536 : Shape := ⟨2, ![16384, 1536]⟩
abbrev S1536x16384 : Shape := ⟨2, ![1536, 16384]⟩
abbrev S1024x16384 : Shape := ⟨2, ![1024, 16384]⟩
abbrev S16384x8 : Shape := ⟨2, ![16384, 8]⟩
abbrev S8x16384 : Shape := ⟨2, ![8, 16384]⟩
abbrev S16x16384 : Shape := ⟨2, ![16, 16384]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8776, .f32⟩
  | .hbm, ⟨2, _⟩ => ⟨S16384x1024, .f32⟩
  | .hbm, ⟨3, _⟩ => ⟨S2x8192x1024, .f32⟩
  | .hbm, ⟨4, _⟩ => ⟨S2x8192x8776, .f32⟩
  | .hbm, ⟨5, _⟩ => ⟨S2x8192x512, .f32⟩
  | .hbm, ⟨6, _⟩ => ⟨S2x8192x512, .f32⟩
  | .hbm, ⟨7, _⟩ => ⟨S2x8192x512, .f32⟩
  | .hbm, ⟨8, _⟩ => ⟨S2x8192x512, .f32⟩
  | .hbm, ⟨9, _⟩ => ⟨S2x8192x512, .f32⟩
  | .hbm, ⟨10, _⟩ => ⟨S2x8192x512, .f32⟩
  | .hbm, ⟨11, _⟩ => ⟨S2x8192x512, .f32⟩
  | .hbm, ⟨12, _⟩ => ⟨S2x8192x64, .f32⟩
  | .hbm, ⟨13, _⟩ => ⟨S2x8192x8, .f32⟩
  | .hbm, ⟨14, _⟩ => ⟨S2x8192x1088, .f32⟩
  | .hbm, ⟨15, _⟩ => ⟨S2x8192x1536, .f32⟩
  | .hbm, ⟨16, _⟩ => ⟨S2x8192x2624, .f32⟩
  | .hbm, ⟨17, _⟩ => ⟨S2x8192x41x64, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8192, .i32⟩
  | .hbm, ⟨27, _⟩ => ⟨S8192, .f32⟩
  | .hbm, ⟨28, _⟩ => ⟨S8192x1, .f32⟩
  | .hbm, ⟨29, _⟩ => ⟨S1x8, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S8192x1x8, .f32⟩
  | .hbm, ⟨35, _⟩ => ⟨S8192x8, .f32⟩
  | .hbm, ⟨36, _⟩ => ⟨S8192x1x8, .f32⟩
  | .hbm, ⟨37, _⟩ => ⟨S2x8192x41x8, .f32⟩
  | .hbm, ⟨38, _⟩ => ⟨S2x8192x41x8, .f32⟩
  | .hbm, ⟨39, _⟩ => ⟨S1x8192x1x8, .f32⟩
  | .hbm, ⟨40, _⟩ => ⟨S2x8192x41x8, .f32⟩
  | .hbm, ⟨41, _⟩ => ⟨S2x8192x41x8, .f32⟩
  | .hbm, ⟨42, _⟩ => ⟨S1x8192x1x8, .f32⟩
  | .hbm, ⟨43, _⟩ => ⟨S2x8192x41x8, .f32⟩
  | .hbm, ⟨44, _⟩ => ⟨S2x8192x41x8, .f32⟩
  | .hbm, ⟨45, _⟩ => ⟨S2x8192x41x8, .f32⟩
  | .hbm, ⟨46, _⟩ => ⟨S1x8192x1x8, .f32⟩
  | .hbm, ⟨47, _⟩ => ⟨S2x8192x41x8, .f32⟩
  | .hbm, ⟨48, _⟩ => ⟨S2x8192x41x8, .f32⟩
  | .hbm, ⟨49, _⟩ => ⟨S1x8192x1x8, .f32⟩
  | .hbm, ⟨50, _⟩ => ⟨S2x8192x41x8, .f32⟩
  | .hbm, ⟨51, _⟩ => ⟨S2x8192x41x8, .f32⟩
  | .hbm, ⟨52, _⟩ => ⟨S2x8192x41x8, .f32⟩
  | .hbm, ⟨53, _⟩ => ⟨S2x8192x41x48, .f32⟩
  | .hbm, ⟨54, _⟩ => ⟨S2x8192x41x64, .f32⟩
  | .hbm, ⟨55, _⟩ => ⟨S16384x2624, .f32⟩
  | .hbm, ⟨56, _⟩ => ⟨S16384x1088, .f32⟩
  | .hbm, ⟨57, _⟩ => ⟨S16384x64, .f32⟩
  | .hbm, ⟨58, _⟩ => ⟨S16384x1152, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S16384x1536, .f32⟩
  | .hbm, ⟨68, _⟩ => ⟨S1536x16384, .f32⟩
  | .hbm, ⟨69, _⟩ => ⟨S16384x512, .f32⟩
  | .hbm, ⟨70, _⟩ => ⟨S16384x512, .f32⟩
  | .hbm, ⟨71, _⟩ => ⟨S16384x1024, .f32⟩
  | .hbm, ⟨72, _⟩ => ⟨S1024x16384, .f32⟩
  | .hbm, ⟨73, _⟩ => ⟨S16384x8, .f32⟩
  | .hbm, ⟨74, _⟩ => ⟨S8x16384, .f32⟩
  | .hbm, ⟨75, _⟩ => ⟨S_, .f32⟩
  | .hbm, ⟨76, _⟩ => ⟨S8x16384, .f32⟩
  | .hbm, ⟨77, _⟩ => ⟨S16x16384, .f32⟩
  | .hbm, ⟨78, _⟩ => ⟨S16384x1152, .bf16⟩
  | .hbm, ⟨79, _⟩ => ⟨S1536x16384, .bf16⟩
  | .hbm, ⟨80, _⟩ => ⟨S1024x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst_1 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_2 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_3 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩

abbrev nD : Nat := 1
abbrev τ : Topo := Topo.v7x

variable {F : FTy → Type} [FloatOps F]
-- ==== MemKv.lean ====
abbrev S2x256x1024 : Shape := ⟨3, ![2, 256, 1024]⟩
abbrev S4x1024 : Shape := ⟨2, ![4, 1024]⟩
abbrev S4x1024x1024 : Shape := ⟨3, ![4, 1024, 1024]⟩
abbrev S512x1024 : Shape := ⟨2, ![512, 1024]⟩
abbrev S4x1x1024 : Shape := ⟨3, ![4, 1, 1024]⟩
abbrev S4x512x1024 : Shape := ⟨3, ![4, 512, 1024]⟩
abbrev S1x1x1024 : Shape := ⟨3, ![1, 1, 1024]⟩
abbrev S1x1024x1024 : Shape := ⟨3, ![1, 1024, 1024]⟩
abbrev S1x512x1024 : Shape := ⟨3, ![1, 512, 1024]⟩
abbrev S512 : Shape := ⟨1, ![512]⟩
abbrev S512x1 : Shape := ⟨2, ![512, 1]⟩
abbrev S1x1024 : Shape := ⟨2, ![1, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x1024, .f32⟩
  | .hbm, ⟨3, _⟩ => ⟨S512x1024, .f32⟩
  | .hbm, ⟨4, _⟩ => ⟨S4x1024x1024, .bf16⟩
  | .hbm, ⟨5, _⟩ => ⟨S4x1x1024, .f32⟩
  | .hbm, ⟨6, _⟩ => ⟨S4x512x1024, .bf16⟩
  | .local _ .vmem, ⟨0, _⟩ => ⟨S512x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x512x1024, .bf16⟩
  | .local _ .vmem, ⟨6, _⟩ => ⟨S1x512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S2x256x1024 : Shape := ⟨3, ![2, 256, 1024]⟩
abbrev S4x1024 : Shape := ⟨2, ![4, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x2x256x1024 : Shape := ⟨4, ![1, 2, 256, 1024]⟩
abbrev S4x2x256x1024 : Shape := ⟨4, ![4, 2, 256, 1024]⟩
abbrev S4x512x1024 : Shape := ⟨3, ![4, 512, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x1024, .f32⟩
  | .hbm, ⟨3, _⟩ => ⟨S1x1024, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1x1024x1024, .f32⟩
  | .hbm, ⟨22, _⟩ => ⟨S1024x1024, .f32⟩
  | .hbm, ⟨23, _⟩ => ⟨S2x256x1024, .f32⟩
  | .hbm, ⟨24, _⟩ => ⟨S1x1024, .f32⟩
  | .hbm, ⟨25, _⟩ => ⟨S1024, .f32⟩
  | .hbm, ⟨26, _⟩ => ⟨S2x256x1024, .f32⟩
  | .hbm, ⟨27, _⟩ => ⟨S_, .f32⟩
  | .hbm, ⟨28, _⟩ => ⟨S2x256, .f32⟩
  | .hbm, ⟨29, _⟩ => ⟨S2x256x1, .f32⟩
  | .hbm, ⟨30, _⟩ => ⟨S_, .f32⟩
  | .hbm, ⟨31, _⟩ => ⟨S2x256x1, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S2x256x1, .f32⟩
  | .hbm, ⟨37, _⟩ => ⟨S2x256x1024, .f32⟩
  | .hbm, ⟨38, _⟩ => ⟨S2x256x1024, .f32⟩
  | .hbm, ⟨39, _⟩ => ⟨S1x1x1024, .f32⟩
  | .hbm, ⟨40, _⟩ => ⟨S2x256x1024, .f32⟩
  | .hbm, ⟨41, _⟩ => ⟨S2x256x1024, .f32⟩
  | .hbm, ⟨42, _⟩ => ⟨S1x1024x1024, .f32⟩
  | .hbm, ⟨43, _⟩ => ⟨S1024x1024, .f32⟩
  | .hbm, ⟨44, _⟩ => ⟨S2x256x1024, .f32⟩
  | .hbm, ⟨45, _⟩ => ⟨S1x1024, .f32⟩
  | .hbm, ⟨46, _⟩ => ⟨S1024, .f32⟩
  | .hbm, ⟨47, _⟩ => ⟨S2x256x1024, .f32⟩
  | .hbm, ⟨48, _⟩ => ⟨S_, .f32⟩
  | .hbm, ⟨49, _⟩ => ⟨S2x256, .f32⟩
  | .hbm, ⟨50, _⟩ => ⟨S2x256x1, .f32⟩
  | .hbm, ⟨51, _⟩ => ⟨S_, .f32⟩
  | .hbm, ⟨52, _⟩ => ⟨S2x256x1, .f32⟩
  | .hbm, ⟨53, _⟩ => ⟨S2x256x1, .f32⟩
  | .hbm, ⟨54, _⟩ => ⟨S_, .f32⟩
  | .hbm, ⟨55, _⟩ => ⟨S2x256x1, .f32⟩
  | .hbm, ⟨56, _⟩ => ⟨S2x256x1, .f32⟩
  | .hbm, ⟨57, _⟩ => ⟨S2x256x1, .f32⟩
  | .hbm, ⟨58, _⟩ => ⟨S2x256x1024, .f32⟩
  | .hbm, ⟨59, _⟩ => ⟨S2x256x1024, .f32⟩
  | .hbm, ⟨60, _⟩ => ⟨S1x1x1024, .f32⟩
  | .hbm, ⟨61, _⟩ => ⟨S2x256x1024, .f32⟩
  | .hbm, ⟨62, _⟩ => ⟨S2x256x1024, .f32⟩
  | .hbm, ⟨63, _⟩ => ⟨S1x1024x1024, .f32⟩
  | .hbm, ⟨64, _⟩ => ⟨S1024x1024, .f32⟩
  | .hbm, ⟨65, _⟩ => ⟨S2x256x1024, .f32⟩
  | .hbm, ⟨66, _⟩ => ⟨S1x1024, .f32⟩
  | .hbm, ⟨67, _⟩ => ⟨S1024, .f32⟩
  | .hbm, ⟨68, _⟩ => ⟨S2x256x1024, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x1, .f32⟩
  | .hbm, ⟨79, _⟩ => ⟨S2x256x1024, .f32⟩
  | .hbm, ⟨80, _⟩ => ⟨S2x256x1024, .f32⟩
  | .hbm, ⟨81, _⟩ => ⟨S1x1x1024, .f32⟩
  | .hbm, ⟨82, _⟩ => ⟨S2x256x1024, .f32⟩
  | .hbm, ⟨83, _⟩ => ⟨S2x256x1024, .f32⟩
  | .hbm, ⟨84, _⟩ => ⟨S1x1024x1024, .f32⟩
  | .hbm, ⟨85, _⟩ => ⟨S1024x1024, .f32⟩
  | .hbm, ⟨86, _⟩ => ⟨S2x256x1024, .f32⟩
  | .hbm, ⟨87, _⟩ => ⟨S1x2x256x1024, .f32⟩
  | .hbm, ⟨88, _⟩ => ⟨S1x2x256x1024, .f32⟩
  | .hbm, ⟨89, _⟩ => ⟨S1x2x256x1024, .f32⟩
  | .hbm, ⟨90, _⟩ => ⟨S1x2x256x1024, .f32⟩
  | .hbm, ⟨91, _⟩ => ⟨S4x2x256x1024, .f32⟩
  | .hbm, ⟨92, _⟩ => ⟨S4x512x1024, .f32⟩
  | .hbm, ⟨93, _⟩ => ⟨S4x512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩

abbrev nD : Nat := 1
abbrev τ : Topo := Topo.v7x

variable {F : FTy → Type} [FloatOps F]
-- ==== Norm.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x8192x1024, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S16384x1024, .f32⟩
  | .hbm, ⟨19, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MergeMid.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1536 : Shape := ⟨2, ![1024, 1536]⟩
abbrev S1024x3072 : Shape := ⟨2, ![1024, 3072]⟩
abbrev S3x512x1024 : Shape := ⟨3, ![3, 512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S256x1024 : Shape := ⟨2, ![256, 1024]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩

abbrev nBuf : Space → Nat
  | .hbm => 14
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .bf16⟩
  | .hbm, ⟨3, _⟩ => ⟨S512x1024, .bf16⟩
  | .hbm, ⟨4, _⟩ => ⟨S1024x512, .bf16⟩
  | .hbm, ⟨5, _⟩ => ⟨S1024x1536, .bf16⟩
  | .hbm, ⟨6, _⟩ => ⟨S1024x3072, .bf16⟩
  | .hbm, ⟨7, _⟩ => ⟨S3x512x1024, .bf16⟩
  | .hbm, ⟨8, _⟩ => ⟨S1024x1024, .bf16⟩
  | .hbm, ⟨9, _⟩ => ⟨S16384x1024, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x512, .bf16⟩
  | .local _ .vmem, ⟨9, _⟩ => ⟨S1024x1536, .bf16⟩
  | .local _ .vmem, ⟨10, _⟩ => ⟨S1024x3072, .bf16⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeMidRefIdeal.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1536 : Shape := ⟨2, ![1024, 1536]⟩
abbrev S1024x3072 : Shape := ⟨2, ![1024, 3072]⟩
abbrev S3x512x1024 : Shape := ⟨3, ![3, 512, 1024]⟩
abbrev S1024x1024 : Shape := ⟨2, ![1024, 1024]⟩
abbrev S1024 : Shape := ⟨1, ![1024]⟩
abbrev S2x8192x1024 : Shape := ⟨3, ![2, 8192, 1024]⟩
abbrev S2x8192x1536 : Shape := ⟨3, ![2, 8192, 1536]⟩
abbrev S2x8192x512 : Shape := ⟨3, ![2, 8192, 512]⟩
abbrev S2x8192x3072 : Shape := ⟨3, ![2, 8192, 3072]⟩
abbrev S_ : Shape := ⟨0, ![]⟩
abbrev S2x8192x4x128 : Shape := ⟨4, ![2, 8192, 4, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x1x512 : Shape := ⟨4, ![2, 8192, 1, 512]⟩
abbrev S2x8192x3x512 : Shape := ⟨4, ![2, 8192, 3, 512]⟩
abbrev S3x1024x2x8192 : Shape := ⟨4, ![3, 1024, 2, 8192]⟩
abbrev S2x8192x3x1024 : Shape := ⟨4, ![2, 8192, 3, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .bf16⟩
  | .hbm, ⟨3, _⟩ => ⟨S512x1024, .bf16⟩
  | .hbm, ⟨4, _⟩ => ⟨S1024x512, .bf16⟩
  | .hbm, ⟨5, _⟩ => ⟨S1024x1536, .bf16⟩
  | .hbm, ⟨6, _⟩ => ⟨S1024x3072, .bf16⟩
  | .hbm, ⟨7, _⟩ => ⟨S3x512x1024, .bf16⟩
  | .hbm, ⟨8, _⟩ => ⟨S1024x1024, .bf16⟩
  | .hbm, ⟨9, _⟩ => ⟨S16384x1024, .f32⟩
  | .hbm, ⟨10, _⟩ => ⟨S1024, .f32⟩
  | .hbm, ⟨11, _⟩ => ⟨S16384x1024, .f32⟩
  | .hbm, ⟨12, _⟩ => ⟨S2x8192x1024, .f32⟩
  | .hbm, ⟨13, _⟩ => ⟨S1024x1536, .f32⟩
  | .hbm, ⟨14, _⟩ => ⟨S2x8192x1536, .f32⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S1024x3072, .f32⟩
  | .hbm, ⟨19, _⟩ => ⟨S2x8192x3072, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S_, .f32⟩
  | .hbm, ⟨24, _⟩ => ⟨S2x8192x512, .f32⟩
  | .hbm, ⟨25, _⟩ => ⟨S2x8192x512, .f32⟩
  | .hbm, ⟨26, _⟩ => ⟨S_, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S_, .f32⟩
  | .hbm, ⟨35, _⟩ => ⟨S2x8192x512, .f32⟩
  | .hbm, ⟨36, _⟩ => ⟨S2x8192x512, .f32⟩
  | .hbm, ⟨37, _⟩ => ⟨S_, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S1024x512, .f32⟩
  | .hbm, ⟨43, _⟩ => ⟨S2x8192x512, .f32⟩
  | .hbm, ⟨44, _⟩ => ⟨S2x8192x4x128, .f32⟩
  | .hbm, ⟨45, _⟩ => ⟨S512x1024, .f32⟩
  | .hbm, ⟨46, _⟩ => ⟨S2x256x1024, .f32⟩
  | .hbm, ⟨47, _⟩ => ⟨S2x256x512, .f32⟩
  | .hbm, ⟨48, _⟩ => ⟨S2x256x512, .f32⟩
  | .hbm, ⟨49, _⟩ => ⟨S2x256x4x128, .f32⟩
  | .hbm, ⟨50, _⟩ => ⟨S2x256x4x128, .f32⟩
  | .hbm, ⟨51, _⟩ => ⟨S2x4x8192x256, .f32⟩
  | .hbm, ⟨52, _⟩ => ⟨S_, .f32⟩
  | .hbm, ⟨53, _⟩ => ⟨S2x4x8192x256, .f32⟩
  | .hbm, ⟨54, _⟩ => ⟨S2x4x8192x256, .f32⟩
  | .hbm, ⟨55, _⟩ => ⟨S_, .f32⟩
  | .hbm, ⟨56, _⟩ => ⟨S2x4x8192, .f32⟩
  | .hbm, ⟨57, _⟩ => ⟨S_, .f32⟩
  | .hbm, ⟨58, _⟩ => ⟨S2x4x8192, .f32⟩
  | .hbm, ⟨59, _⟩ => ⟨S2x4x8192, .f32⟩
  | .hbm, ⟨60, _⟩ => ⟨S2x4x8192x1, .f32⟩
  | .hbm, ⟨61, _⟩ => ⟨S2x4x8192x256, .f32⟩
  | .hbm, ⟨62, _⟩ => ⟨S2x4x8192x256, .f32⟩
  | .hbm, ⟨63, _⟩ => ⟨S2x4x8192x256, .f32⟩
  | .hbm, ⟨64, _⟩ => ⟨S_, .f32⟩
  | .hbm, ⟨65, _⟩ => ⟨S2x4x8192, .f32⟩
  | .hbm, ⟨66, _⟩ => ⟨S2x4x8192x1, .f32⟩
  | .hbm, ⟨67, _⟩ => ⟨S2x4x8192x256, .f32⟩
  | .hbm, ⟨68, _⟩ => ⟨S2x4x8192x256, .f32⟩
  | .hbm, ⟨69, _⟩ => ⟨S2x4x128x8192, .f32⟩
  | .hbm, ⟨70, _⟩ => ⟨S2x8192x4x128, .f32⟩
  | .hbm, ⟨71, _⟩ => ⟨S2x8192x512, .f32⟩
  | .hbm, ⟨72, _⟩ => ⟨S2x8192x512, .f32⟩
  | .hbm, ⟨73, _⟩ => ⟨S2x8192x512, .f32⟩
  | .hbm, ⟨74, _⟩ => ⟨S_, .f32⟩
  | .hbm, ⟨75, _⟩ => ⟨S2x8192x512, .f32⟩
  | .hbm, ⟨76, _⟩ => ⟨S2x8192x512, .f32⟩
  | .hbm, ⟨77, _⟩ => ⟨S_, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S2x8192x512, .f32⟩
  | .hbm, ⟨82, _⟩ => ⟨S2x8192x1x512, .f32⟩
  | .hbm, ⟨83, _⟩ => ⟨S2x8192x1x512, .f32⟩
  | .hbm, ⟨84, _⟩ => ⟨S2x8192x1x512, .f32⟩
  | .hbm, ⟨85, _⟩ => ⟨S2x8192x3x512, .f32⟩
  | .hbm, ⟨86, _⟩ => ⟨S3x512x1024, .f32⟩
  | .hbm, ⟨87, _⟩ => ⟨S3x1024x2x8192, .f32⟩
  | .hbm, ⟨88, _⟩ => ⟨S2x8192x3x1024, .f32⟩
  | .hbm, ⟨89, _⟩ => ⟨S2x8192x3x1024, .f32⟩
  | .hbm, ⟨90, _⟩ => ⟨S2x8192x3x1024, .f32⟩
  | .hbm, ⟨91, _⟩ => ⟨S2x8192x3x1024, .f32⟩
  | .hbm, ⟨92, _⟩ => ⟨S_, .f32⟩
  | .hbm, ⟨93, _⟩ => ⟨S2x8192x3x1024, .f32⟩
  | .hbm, ⟨94, _⟩ => ⟨S2x8192x3x1024, .f32⟩
  | .hbm, ⟨95, _⟩ => ⟨S_, .f32⟩
  | .hbm, ⟨96, _⟩ => ⟨S2x8192x3x1024, .f32⟩
  | .hbm, ⟨97, _⟩ => ⟨S2x8192x3x1024, .f32⟩
  | .hbm, ⟨98, _⟩ => ⟨S2x8192x3x1024, .f32⟩
  | .hbm, ⟨99, _⟩ => ⟨S_, .f32⟩
  | .hbm, ⟨100, _⟩ => ⟨S2x8192x1024, .f32⟩
  | .hbm, ⟨101, _⟩ => ⟨S2x8192x1024, .f32⟩
  | .hbm, ⟨102, _⟩ => ⟨S1024x1024, .f32⟩
  | .hbm, ⟨103, _⟩ => ⟨S2x8192x1024, .f32⟩
  | .hbm, ⟨104, _⟩ => ⟨S2x8192x1024, .f32⟩
  | .hbm, ⟨105, _⟩ => ⟨S16384x1024, .f32⟩
  | .hbm, ⟨106, _⟩ => ⟨S2x8192x1024, .f32⟩
  | .hbm, ⟨107, _⟩ => ⟨S_, .f32⟩
  | .hbm, ⟨108, _⟩ => ⟨S2x8192, .f32⟩
  | .hbm, ⟨109, _⟩ => ⟨S2x8192x1, .f32⟩
  | .hbm, ⟨110, _⟩ => ⟨S_, .f32⟩
  | .hbm, ⟨111, _⟩ => ⟨S2x8192x1, .f32⟩
  | .hbm, ⟨112, _⟩ => ⟨S2x8192x1, .f32⟩
  | .hbm, ⟨113, _⟩ => ⟨S_, .f32⟩
  | .hbm, ⟨114, _⟩ => ⟨S2x8192x1, .f32⟩
  | .hbm, ⟨115, _⟩ => ⟨S2x8192x1, .f32⟩
  | .hbm, ⟨116, _⟩ => ⟨S2x8192x1, .f32⟩
  | .hbm, ⟨117, _⟩ => ⟨S2x8192x1024, .f32⟩
  | .hbm, ⟨118, _⟩ => ⟨S2x8192x1024, .f32⟩
  | .hbm, ⟨119, _⟩ => ⟨S1x1x1024, .f32⟩
  | .hbm, ⟨120, _⟩ => ⟨S2x8192x1024, .f32⟩
  | .hbm, ⟨121, _⟩ => ⟨S2x8192x1024, .f32⟩
  | .hbm, ⟨122, _⟩ => ⟨S16384x1024, .f32⟩
  | .hbm, ⟨123, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_cst_1 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_3 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_5 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_v66 : Ref sig .tc := ⟨.hbm, 109, rfl⟩
abbrev main_cst_7 : Ref sig .tc := ⟨.hbm, 110, rfl⟩
abbrev main_v67 : Ref sig .tc := ⟨.hbm, 111, rfl⟩
abbrev main_v68 : Ref sig .tc := ⟨.hbm, 112, rfl⟩
abbrev main_cst_8 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩

abbrev nD : Nat := 1
abbrev τ : Topo := Topo.v7x

variable {F : FTy → Type} [FloatOps F]
-- ==== Proof.Row.lean ====
/- One row of the merge, as plain formulas over the extended reals: what one row of the normalised input, its two branch
   outputs and its residual become. Both programs of the claim are read back to these formulas. -/
module

public import Idealize.ShloMosaic.Lib.Pipeline.ValueKit
public import Idealize.ShloMosaic.Lib.Pointwise
@[expose] public section

set_option maxRecDepth 16384
noncomputable section
open Idealize.ShloMosaic

namespace Cert.Row

/-- A row times a matrix, read at column `c`. -/
def proj {n : ℕ} (h : Fin 1024 → EReal) (w : Fin 1024 → Fin n → EReal) (c : Fin n) : EReal := ∑ k, h k * w k c

/-- `x · sigmoid(x)`. -/
def silu (x : EReal) : EReal := x * Ideal.logistic x

/-- The softmax of 256 scores, read at one of them: the exponentials are taken after the maximum is subtracted. -/
def soft (z : Fin 256 → EReal) (j : Fin 256) : EReal :=
  Ideal.div (Ideal.exp (z j - Finset.univ.fold max (Ideal.ofBits .f32 0xFF800000#32) z))
    (∑ i, Ideal.exp (z i - Finset.univ.fold max (Ideal.ofBits .f32 0xFF800000#32) z))

/-- Head `hd`'s score of memory slot `j`: the query's 128 lanes against the key's, times the scale. -/
def score (q : Fin 512 → EReal) (kv : Fin 256 → Fin 1024 → EReal) (hd : Fin 4) (j : Fin 256) : EReal :=
  (∑ e : Fin 128, q ⟨hd.val * 128 + e.val, by omega⟩ * kv j ⟨hd.val * 128 + e.val, by omega⟩) * Ideal.ofBits .f32 0x3DB504F3#32

/-- Head `hd`'s output at lane `d`: the values weighted by the softmax of the scores. -/
def head (q : Fin 512 → EReal) (kv : Fin 256 → Fin 1024 → EReal) (hd : Fin 4) (d : Fin 128) : EReal :=
  ∑ j, soft (score q kv hd) j * kv j ⟨512 + (hd.val * 128 + d.val), by omega⟩

/-- The memory attention's output: the four heads side by side. -/
def memo (q : Fin 512 → EReal) (kv : Fin 256 → Fin 1024 → EReal) (c : Fin 512) : EReal :=
  head q kv ⟨c.val / 128, by omega⟩ ⟨c.val % 128, by omega⟩

/-- Branch `n`'s gated row lifted to the model width, times its mixing gate, at column `d`. -/
def lift (n : Fin 3) (y : Fin 512 → EReal) (h : Fin 1024 → EReal) (wg : Fin 1024 → Fin 1536 → EReal)
    (wmix : Fin 1024 → Fin 3072 → EReal) (wb : Fin 3 → Fin 512 → Fin 1024 → EReal) (d : Fin 1024) : EReal :=
  Ideal.logistic (proj h wmix ⟨n.val * 1024 + d.val, by omega⟩)
    * ∑ w : Fin 512, y w * silu (proj h wg ⟨n.val * 512 + w.val, by omega⟩) * wb n w d

/-- The three gated branches added up. -/
def merged (ya yb : Fin 512 → EReal) (h : Fin 1024 → EReal) (kv : Fin 256 → Fin 1024 → EReal)
    (wmq : Fin 1024 → Fin 512 → EReal) (wg : Fin 1024 → Fin 1536 → EReal) (wmix : Fin 1024 → Fin 3072 → EReal)
    (wb : Fin 3 → Fin 512 → Fin 1024 → EReal) (d : Fin 1024) : EReal :=
  lift 0 ya h wg wmix wb d + lift 1 yb h wg wmix wb d + lift 2 (memo (proj h wmq) kv) h wg wmix wb d

/-- The residual row plus a row projected by the output matrix. -/
def resid (x mg : Fin 1024 → EReal) (wo : Fin 1024 → Fin 1024 → EReal) (d : Fin 1024) : EReal := x d + proj mg wo d

/-- A row divided by its root mean square and scaled by the gain. -/
def rms (x g : Fin 1024 → EReal) (d : Fin 1024) : EReal :=
  x d * Ideal.rsqrt (Ideal.div (∑ k, x k * x k) (Ideal.ofBits .f32 0x44800000#32) + Ideal.ofBits .f32 0x358637BD#32) * g d

end Cert.Row
end
-- ==== Proof.RefTerm.lean ====
/- What the reference computes, stage by stage: its composed term cut into named stages. -/
module

public import proofs.«01_k».proof.Proof.Gen.ReferenceIdeal.Run
public import proofs.«01_k».proof.Proof.Row
@[expose] public section

set_option maxRecDepth 16384
noncomputable section
open Idealize.ShloMosaic Idealize.ShloMosaic.TcCoe Idealize.SL.Sem

namespace Cert.ReferenceIdeal.Stage
open Cert.ReferenceIdeal Cert.ReferenceIdeal.Gen Cert.Row

/-- The input, split into batch entries. -/
def hid (H : FVec Ideal S16384x1024 .bf16) : FVec Ideal S2x8192x1024 .f32 :=
  shapeCast _ (extf .f32 H bitsLt_bf16_f32) shapeCasts_S16384x1024_S2x8192x1024

/-- `x · 1/(1 + e⁻ˣ)`, elementwise. -/
def siluT (x : FVec Ideal S2x8192x512 .f32) : FVec Ideal S2x8192x512 .f32 :=
  mulf x (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf x))))

/-- The gate projections of the three branches. -/
def gateT (H : FVec Ideal S16384x1024 .bf16) (WG : FVec Ideal S1024x1536 .bf16) : FVec Ideal S2x8192x1536 .f32 :=
  Host.dotGeneral dot_S2x8192x1024_S1024x1536_S2x8192x1536_2_0_01_1_n_n none (hid H) (extf .f32 WG bitsLt_bf16_f32)

/-- The mixing gates. -/
def mixT (H : FVec Ideal S16384x1024 .bf16) (WX : FVec Ideal S1024x3072 .bf16) : FVec Ideal S2x8192x3x1024 .f32 :=
  Host.divf (broadcastInDim S2x8192x3x1024 ![] bcast_S_S2x8192x3x1024 (constant S_ .f32 0x3F800000#32))
    (addf (broadcastInDim S2x8192x3x1024 ![] bcast_S_S2x8192x3x1024 (constant S_ .f32 0x3F800000#32)) (Host.exp (Host.negf
      (shapeCast _ (Host.dotGeneral dot_S2x8192x1024_S1024x3072_S2x8192x3072_2_0_01_1_n_n none (hid H) (extf .f32 WX bitsLt_bf16_f32)) shapeCasts_S2x8192x3072_S2x8192x3x1024))))

/-- The scaled scores of the memory slots, head by head. -/
def scoreT (H : FVec Ideal S16384x1024 .bf16) (KV : FVec Ideal S512x1024 .bf16) (WQ : FVec Ideal S1024x512 .bf16) : FVec Ideal S2x4x8192x256 .f32 :=
  mulf (Host.dotGeneral dot_S2x8192x4x128_S2x256x4x128_S2x4x8192x256_3_3_1_1_02_02 none
      (shapeCast _ (Host.dotGeneral dot_S2x8192x1024_S1024x512_S2x8192x512_2_0_01_1_n_n none (hid H) (extf .f32 WQ bitsLt_bf16_f32)) shapeCasts_S2x8192x512_S2x8192x4x128)
      (shapeCast _ (extractStridedSlice S2x256x512 ![0, 0, 0] (shapeCast _ (extf .f32 KV bitsLt_bf16_f32) shapeCasts_S512x1024_S2x256x1024) slices_S2x256x1024_S2x256x512_0_0_0) shapeCasts_S2x256x512_S2x256x4x128))
    (broadcastInDim S2x4x8192x256 ![] bcast_S_S2x4x8192x256 (constant S_ .f32 0x3DB504F3#32))

/-- The largest score. -/
def maxT (Z : FVec Ideal S2x4x8192x256 .f32) : FVec Ideal S2x4x8192 .f32 :=
  Host.reduce FloatOps.maximumf Z (constant S_ .f32 0xFF800000#32) reducesTo_S2x4x8192x256_S2x4x8192_d3 h_S_

/-- The largest score again, not below the value the maximum starts from. -/
def topT (Z : FVec Ideal S2x4x8192x256 .f32) : FVec Ideal S2x4x8192 .f32 :=
  maximumf (broadcastInDim S2x4x8192 ![] bcast_S_S2x4x8192 (constant S_ .f32 0xFF800000#32)) (maxT Z)

/-- The scores' exponentials after the maximum is subtracted. -/
def expT (Z : FVec Ideal S2x4x8192x256 .f32) : FVec Ideal S2x4x8192x256 .f32 :=
  Host.exp (subf Z (broadcastInDim S2x4x8192x256 ![0, 1, 2, 3] bcast_S2x4x8192x1_S2x4x8192x256_0_1_2_3 (broadcastInDim S2x4x8192x1 ![0, 1, 2] bcast_S2x4x8192_S2x4x8192x1_0_1_2
    (topT Z))))

/-- The softmax weights. -/
def softT (Z : FVec Ideal S2x4x8192x256 .f32) : FVec Ideal S2x4x8192x256 .f32 :=
  Host.divf (expT Z) (broadcastInDim S2x4x8192x256 ![0, 1, 2, 3] bcast_S2x4x8192x1_S2x4x8192x256_0_1_2_3 (broadcastInDim S2x4x8192x1 ![0, 1, 2] bcast_S2x4x8192_S2x4x8192x1_0_1_2
    (Host.reduceAdd (expT Z) (constant S_ .f32 0x00000000#32) reducesTo_S2x4x8192x256_S2x4x8192_d3 h_S_)))

/-- The memory attention's output, heads side by side. -/
def memT (H : FVec Ideal S16384x1024 .bf16) (KV : FVec Ideal S512x1024 .bf16) (WQ : FVec Ideal S1024x512 .bf16) : FVec Ideal S2x8192x512 .f32 :=
  shapeCast _ (transpose S2x8192x4x128 [0, 3, 1, 2] (Host.dotGeneral dot_S2x256x4x128_S2x4x8192x256_S2x4x128x8192_1_3_3_2_02_01 none
    (shapeCast _ (extractStridedSlice S2x256x512 ![0, 0, 512] (shapeCast _ (extf .f32 KV bitsLt_bf16_f32) shapeCasts_S512x1024_S2x256x1024) slices_S2x256x1024_S2x256x512_0_0_512) shapeCasts_S2x256x512_S2x256x4x128)
    (softT (scoreT H KV WQ))) transposes_S2x4x128x8192_S2x8192x4x128_0_3_1_2) shapeCasts_S2x8192x4x128_S2x8192x512

/-- The three gated branches, stacked. -/
def stackT (a b c : FVec Ideal S2x8192x512 .f32) : FVec Ideal S2x8192x3x512 .f32 :=
  concatenate S2x8192x3x512 2 [⟨S2x8192x1x512, broadcastInDim S2x8192x1x512 ![0, 1, 3] bcast_S2x8192x512_S2x8192x1x512_0_1_3 a⟩,
    ⟨S2x8192x1x512, broadcastInDim S2x8192x1x512 ![0, 1, 3] bcast_S2x8192x512_S2x8192x1x512_0_1_3 b⟩,
    ⟨S2x8192x1x512, broadcastInDim S2x8192x1x512 ![0, 1, 3] bcast_S2x8192x512_S2x8192x1x512_0_1_3 c⟩] concatenates_S2x8192x1x512_S2x8192x1x512_S2x8192x1x512_S2x8192x3x512_d2

/-- The gated branches, lifted to the model width, times the mixing gates, added up. -/
def mergeT (YA YB : FVec Ideal S16384x512 .f32) (H : FVec Ideal S16384x1024 .bf16) (KV : FVec Ideal S512x1024 .bf16) (WQ : FVec Ideal S1024x512 .bf16)
    (WG : FVec Ideal S1024x1536 .bf16) (WX : FVec Ideal S1024x3072 .bf16) (WB : FVec Ideal S3x512x1024 .bf16) : FVec Ideal S2x8192x1024 .f32 :=
  Host.reduceAdd (mulf (mixT H WX) (transpose S2x8192x3x1024 [2, 3, 0, 1] (Host.dotGeneral dot_S3x512x1024_S2x8192x3x512_S3x1024x2x8192_1_3_2_01_0_2 none (extf .f32 WB bitsLt_bf16_f32)
      (stackT (mulf (shapeCast _ YA shapeCasts_S16384x512_S2x8192x512) (siluT (extractStridedSlice S2x8192x512 ![0, 0, 0] (gateT H WG) slices_S2x8192x1536_S2x8192x512_0_0_0)))
        (mulf (shapeCast _ YB shapeCasts_S16384x512_S2x8192x512) (siluT (extractStridedSlice S2x8192x512 ![0, 0, 512] (gateT H WG) slices_S2x8192x1536_S2x8192x512_0_0_512)))
        (mulf (memT H KV WQ) (siluT (extractStridedSlice S2x8192x512 ![0, 0, 1024] (gateT H WG) slices_S2x8192x1536_S2x8192x512_0_0_1024)))))
      transposes_S3x1024x2x8192_S2x8192x3x1024_2_3_0_1))
    (constant S_ .f32 0x00000000#32) reducesTo_S2x8192x3x1024_S2x8192x1024_d2 h_S_

/-- The residual stream after the layer. -/
def residT (MG : FVec Ideal S2x8192x1024 .f32) (WO : FVec Ideal S1024x1024 .bf16) (X : FVec Ideal S16384x1024 .f32) : FVec Ideal S2x8192x1024 .f32 :=
  addf (shapeCast _ X shapeCasts_S16384x1024_S2x8192x1024) (Host.dotGeneral dot_S2x8192x1024_S1024x1024_S2x8192x1024_2_0_01_1_n_n none MG (extf .f32 WO bitsLt_bf16_f32))

/-- The final normalisation. -/
def rmsT (X : FVec Ideal S2x8192x1024 .f32) (G : FVec Ideal S1024 .f32) : FVec Ideal S16384x1024 .f32 :=
  shapeCast _ (mulf (mulf X (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf X X) (constant S_ .f32 0x00000000#32) reducesTo_S2x8192x1024_S2x8192_d2 h_S_))
      (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))) shapeCasts_S2x8192x1024_S16384x1024

/-- The reference's result over its arguments. -/
def result (YA YB : FVec Ideal S16384x512 .f32) (H : FVec Ideal S16384x1024 .bf16) (KV : FVec Ideal S512x1024 .bf16) (WQ : FVec Ideal S1024x512 .bf16)
    (WG : FVec Ideal S1024x1536 .bf16) (WX : FVec Ideal S1024x3072 .bf16) (WB : FVec Ideal S3x512x1024 .bf16) (WO : FVec Ideal S1024x1024 .bf16)
    (X : FVec Ideal S16384x1024 .f32) (G : FVec Ideal S1024 .f32) : FVec Ideal S16384x1024 .f32 :=
  rmsT (residT (mergeT YA YB H KV WQ WG WX WB) WO X) G

end Cert.ReferenceIdeal.Stage
end
-- ==== Proof.RefAt.lean ====
/- What the reference computes, stage by stage, read at batch entry `b` and position `s`. -/
module

public import proofs.«01_k».proof.Proof.RefTerm
public import proofs.«01_k».proof.Proof.Row
@[expose] public section

set_option maxRecDepth 16384
noncomputable section
open Idealize.ShloMosaic Idealize.ShloMosaic.TcCoe Idealize.SL.Sem

namespace Cert.ReferenceIdeal.Stage
open Cert.ReferenceIdeal Cert.ReferenceIdeal.Gen Cert.Row

/-- Row `s` of batch entry `b` in the flat layout of the arguments. -/
def flat (b : Fin 2) (s : Fin 8192) : Fin 16384 := ⟨b.val * 8192 + s.val, by omega⟩

/-- The gate projection at a position. -/
theorem gate_at (H : FVec Ideal S16384x1024 .bf16) (WG : FVec Ideal S1024x1536 .bf16) (b : Fin 2) (s : Fin 8192) (c : Fin 1536) :
    gateT H WG (ix3 b s c) = proj (fun k => H (ix2 (flat b s) k)) (fun k c => WG (ix2 k c)) c := by
  pointwise [gateT, hid, proj, flat]

/-- The gated activation at a position. -/
theorem silu_at (x : FVec Ideal S2x8192x512 .f32) (b : Fin 2) (s : Fin 8192) (c : Fin 512) : siluT x (ix3 b s c) = silu (x (ix3 b s c)) := by
  pointwise [siluT, silu, Ideal.logistic]

/-- The mixing gate at a position. -/
theorem mix_at (H : FVec Ideal S16384x1024 .bf16) (WX : FVec Ideal S1024x3072 .bf16) (b : Fin 2) (s : Fin 8192) (n : Fin 3) (d : Fin 1024) :
    mixT H WX (ix4 b s n d) = Ideal.logistic (proj (fun k => H (ix2 (flat b s) k)) (fun k c => WX (ix2 k c)) ⟨n.val * 1024 + d.val, by omega⟩) := by
  pointwise [mixT, hid, proj, flat, Ideal.logistic]

/-- The scaled score at a position. -/
theorem score_at (H : FVec Ideal S16384x1024 .bf16) (KV : FVec Ideal S512x1024 .bf16) (WQ : FVec Ideal S1024x512 .bf16) (b : Fin 2) (hd : Fin 4) (s : Fin 8192) (j : Fin 256) :
    scoreT H KV WQ (ix4 b hd s j) = score (proj (fun k => H (ix2 (flat b s) k)) (fun k c => WQ (ix2 k c))) (fun j c => KV (ix2 ⟨b.val * 256 + j.val, by omega⟩ c)) hd j := by
  pointwise [scoreT, hid, proj, flat, score]

/-- A maximum that starts from `a` is not below `a`. -/
theorem max_start (a : EReal) (z : Fin 256 → EReal) : max a (Finset.univ.fold max a z) = Finset.univ.fold max a z :=
  max_eq_right ((Finset.le_fold_max a).2 (Or.inl le_rfl))

/-- The largest score at a position. -/
theorem max_at (Z : FVec Ideal S2x4x8192x256 .f32) (b : Fin 2) (hd : Fin 4) (s : Fin 8192) :
    maxT Z (ix3 b hd s) = Finset.univ.fold max (Ideal.ofBits .f32 0xFF800000#32) fun k => Z (ix4 b hd s k) :=
  (Host.reduce_eq_fold _ _ _ _ _ _).trans (Shape.ReducesTo.fold_fiber_r4_a3 _ _ _ _ _)

/-- Starting the maximum once more changes nothing. -/
theorem top_at (Z : FVec Ideal S2x4x8192x256 .f32) (b : Fin 2) (hd : Fin 4) (s : Fin 8192) :
    topT Z (ix3 b hd s) = Finset.univ.fold max (Ideal.ofBits .f32 0xFF800000#32) fun k => Z (ix4 b hd s k) := by
  rw [← max_start, ← max_at]
  unfold topT
  generalize maxT Z = T
  rw [maximumf_apply, Ideal.maximumf_def]
  exact congrArg (max · (T (ix3 b hd s))) rfl

/-- The exponential at a position. -/
theorem exp_at (Z : FVec Ideal S2x4x8192x256 .f32) (b : Fin 2) (hd : Fin 4) (s : Fin 8192) (j : Fin 256) :
    expT Z (ix4 b hd s j) = Ideal.exp (Z (ix4 b hd s j) - Finset.univ.fold max (Ideal.ofBits .f32 0xFF800000#32) fun k => Z (ix4 b hd s k)) := by
  rw [← top_at]
  pointwise [expT]

/-- The softmax weight at a position. -/
theorem soft_at (Z : FVec Ideal S2x4x8192x256 .f32) (b : Fin 2) (hd : Fin 4) (s : Fin 8192) (j : Fin 256) :
    softT Z (ix4 b hd s j) = soft (fun j => Z (ix4 b hd s j)) j := by
  unfold soft
  pointwise [softT, exp_at]

/-- The memory attention at a position. -/
theorem memo_at (H : FVec Ideal S16384x1024 .bf16) (KV : FVec Ideal S512x1024 .bf16) (WQ : FVec Ideal S1024x512 .bf16) (b : Fin 2) (s : Fin 8192) (c : Fin 512) :
    memT H KV WQ (ix3 b s c) = memo (proj (fun k => H (ix2 (flat b s) k)) (fun k c => WQ (ix2 k c))) (fun j c => KV (ix2 ⟨b.val * 256 + j.val, by omega⟩ c)) c := by
  pointwise [memT, soft_at, score_at, memo, head]
  refine Finset.sum_congr rfl fun x _ => ?_
  rw [mul_comm]
  refine congrArg₂ (· * ·) rfl (congrArg KV ?_)
  exact congrArg (ix2 _) (Fin.ext (by show 512 + c.val = 512 + (c.val / 128 * 128 + c.val % 128); omega))

/-- The merged branches at a position. -/
theorem merged_at (YA YB : FVec Ideal S16384x512 .f32) (H : FVec Ideal S16384x1024 .bf16) (KV : FVec Ideal S512x1024 .bf16) (WQ : FVec Ideal S1024x512 .bf16)
    (WG : FVec Ideal S1024x1536 .bf16) (WX : FVec Ideal S1024x3072 .bf16) (WB : FVec Ideal S3x512x1024 .bf16) (b : Fin 2) (s : Fin 8192) (d : Fin 1024) :
    mergeT YA YB H KV WQ WG WX WB (ix3 b s d) = merged (fun w => YA (ix2 (flat b s) w)) (fun w => YB (ix2 (flat b s) w)) (fun k => H (ix2 (flat b s) k))
      (fun j c => KV (ix2 ⟨b.val * 256 + j.val, by omega⟩ c)) (fun k c => WQ (ix2 k c)) (fun k c => WG (ix2 k c)) (fun k c => WX (ix2 k c)) (fun n w d => WB (ix3 n w d)) d := by
  pointwise [mergeT, mix_at, stackT, silu_at, memo_at, gate_at, merged, lift, flat]
  rw [Fin.sum_univ_three]
  refine congrArg₂ (· + ·) (congrArg₂ (· + ·) ?_ ?_) ?_
  all_goals
    refine congrArg₂ (· * ·) (by pointwise) (Finset.sum_congr rfl fun w _ => ?_)
    rw [mul_comm]
    pointwise

/-- The residual stream after the layer, one row per token. -/
def stream (YA YB : FVec Ideal S16384x512 .f32) (H : FVec Ideal S16384x1024 .bf16) (KV : FVec Ideal S512x1024 .bf16) (WQ : FVec Ideal S1024x512 .bf16)
    (WG : FVec Ideal S1024x1536 .bf16) (WX : FVec Ideal S1024x3072 .bf16) (WB : FVec Ideal S3x512x1024 .bf16) (WO : FVec Ideal S1024x1024 .bf16)
    (X : FVec Ideal S16384x1024 .f32) : FVec Ideal S16384x1024 .f32 :=
  shapeCast _ (residT (mergeT YA YB H KV WQ WG WX WB) WO X) shapeCasts_S2x8192x1024_S16384x1024

/-- The residual stream at a row and column. -/
theorem stream_at (YA YB : FVec Ideal S16384x512 .f32) (H : FVec Ideal S16384x1024 .bf16) (KV : FVec Ideal S512x1024 .bf16) (WQ : FVec Ideal S1024x512 .bf16)
    (WG : FVec Ideal S1024x1536 .bf16) (WX : FVec Ideal S1024x3072 .bf16) (WB : FVec Ideal S3x512x1024 .bf16) (WO : FVec Ideal S1024x1024 .bf16)
    (X : FVec Ideal S16384x1024 .f32) (i : Fin 16384) (d : Fin 1024) :
    stream YA YB H KV WQ WG WX WB WO X (ix2 i d) = resid (fun d => X (ix2 i d))
      (merged (fun w => YA (ix2 i w)) (fun w => YB (ix2 i w)) (fun k => H (ix2 i k)) (fun j c => KV (ix2 ⟨i.val / 8192 * 256 + j.val, by omega⟩ c))
        (fun k c => WQ (ix2 k c)) (fun k c => WG (ix2 k c)) (fun k c => WX (ix2 k c)) (fun n w d => WB (ix3 n w d)))
      (fun k d => WO (ix2 k d)) d := by
  have e : flat ⟨i.val / 8192, by omega⟩ ⟨i.val % 8192, by omega⟩ = i := Fin.ext (by show i.val / 8192 * 8192 + i.val % 8192 = i.val; omega)
  unfold resid proj
  pointwise [stream, residT, merged_at, e]

/-- The result at a row and column: the row formulas over the arguments' rows. -/
theorem result_at (YA YB : FVec Ideal S16384x512 .f32) (H : FVec Ideal S16384x1024 .bf16) (KV : FVec Ideal S512x1024 .bf16) (WQ : FVec Ideal S1024x512 .bf16)
    (WG : FVec Ideal S1024x1536 .bf16) (WX : FVec Ideal S1024x3072 .bf16) (WB : FVec Ideal S3x512x1024 .bf16) (WO : FVec Ideal S1024x1024 .bf16)
    (X : FVec Ideal S16384x1024 .f32) (G : FVec Ideal S1024 .f32) (i : Fin 16384) (d : Fin 1024) :
    result YA YB H KV WQ WG WX WB WO X G (ix2 i d) = rms (resid (fun d => X (ix2 i d))
      (merged (fun w => YA (ix2 i w)) (fun w => YB (ix2 i w)) (fun k => H (ix2 i k)) (fun j c => KV (ix2 ⟨i.val / 8192 * 256 + j.val, by omega⟩ c))
        (fun k c => WQ (ix2 k c)) (fun k c => WG (ix2 k c)) (fun k c => WX (ix2 k c)) (fun n w d => WB (ix3 n w d)))
      (fun k d => WO (ix2 k d))) (fun d => G (ix1 d)) d := by
  have e : flat ⟨i.val / 8192, by omega⟩ ⟨i.val % 8192, by omega⟩ = i := Fin.ext (by show i.val / 8192 * 8192 + i.val % 8192 = i.val; omega)
  unfold rms resid proj
  pointwise [result, rmsT, residT, merged_at, e]

end Cert.ReferenceIdeal.Stage
end
-- ==== Proof.RefRun.lean ====
/- The composed term of the reference's run is the staged result of RefTerm.lean. -/
module

public import proofs.«01_k».proof.Proof.RefTerm
public import proofs.«01_k».proof.Proof.RefAt
@[expose] public section

set_option maxRecDepth 16384
noncomputable section
open Idealize.ShloMosaic Idealize.ShloMosaic.TcCoe Idealize.SL.Sem

namespace Cert.ReferenceIdeal.Stage
open Cert.ReferenceIdeal Cert.ReferenceIdeal.Gen

/-- What the run leaves in the result buffer, as the staged term. -/
theorem res_eq (m : (ℓ : Loc nD τ sig) → Buf (Elt Ideal) ℓ) (c : Dev nD) : Value.res_out0 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  unfold Value.res_out0 Value.res_main_v76 result rmsT residT mergeT stackT memT softT expT topT maxT scoreT mixT siluT gateT hid
  rfl

/-- Equal arguments give equal results. -/
theorem result_congr {YA YA' YB YB' : FVec Ideal S16384x512 .f32} {H H' : FVec Ideal S16384x1024 .bf16} {KV KV' : FVec Ideal S512x1024 .bf16}
    {WQ WQ' : FVec Ideal S1024x512 .bf16} {WG WG' : FVec Ideal S1024x1536 .bf16} {WX WX' : FVec Ideal S1024x3072 .bf16} {WB WB' : FVec Ideal S3x512x1024 .bf16}
    {WO WO' : FVec Ideal S1024x1024 .bf16} {X X' : FVec Ideal S16384x1024 .f32} {G G' : FVec Ideal S1024 .f32} (h0 : YA = YA') (h1 : YB = YB') (h2 : H = H')
    (h3 : KV = KV') (h4 : WQ = WQ') (h5 : WG = WG') (h6 : WX = WX') (h7 : WB = WB') (h8 : WO = WO') (h9 : X = X') (h10 : G = G') :
    result YA YB H KV WQ WG WX WB WO X G = result YA' YB' H' KV' WQ' WG' WX' WB' WO' X' G' := by
  subst h0 h1 h2 h3 h4 h5 h6 h7 h8 h9 h10
  rfl

/-- Equal arguments give equal residual streams. -/
theorem stream_congr {YA YA' YB YB' : FVec Ideal S16384x512 .f32} {H H' : FVec Ideal S16384x1024 .bf16} {KV KV' : FVec Ideal S512x1024 .bf16}
    {WQ WQ' : FVec Ideal S1024x512 .bf16} {WG WG' : FVec Ideal S1024x1536 .bf16} {WX WX' : FVec Ideal S1024x3072 .bf16} {WB WB' : FVec Ideal S3x512x1024 .bf16}
    {WO WO' : FVec Ideal S1024x1024 .bf16} {X X' : FVec Ideal S16384x1024 .f32} (h0 : YA = YA') (h1 : YB = YB') (h2 : H = H')
    (h3 : KV = KV') (h4 : WQ = WQ') (h5 : WG = WG') (h6 : WX = WX') (h7 : WB = WB') (h8 : WO = WO') (h9 : X = X') :
    stream YA YB H KV WQ WG WX WB WO X = stream YA' YB' H' KV' WQ' WG' WX' WB' WO' X' := by
  subst h0 h1 h2 h3 h4 h5 h6 h7 h8 h9
  rfl

end Cert.ReferenceIdeal.Stage
end
-- ==== Proof.Block.lean ====
/- What one grid point of the kernel computes, payload by payload, read at row `r` of its block: the formulas of Row.lean over
   the rows and matrices the loaded vectors hold. -/
module

public import proofs.«01_k».proof.Proof.Gen.KernelIdeal.Frame
public import proofs.«01_k».proof.Proof.Row
@[expose] public section

set_option maxRecDepth 16384
noncomputable section
open Idealize.ShloMosaic Idealize.ShloMosaic.TcCoe Idealize.SL.Sem

namespace Cert.KernelIdeal.Block
open Cert.KernelIdeal Cert.KernelIdeal.Gen Cert.Row

/-- The memory query is the row of the input projected by the query weights. -/
theorem query (v0 : FVec Ideal S512x1024 .bf16) (v1 : FVec Ideal S1024x512 .bf16) (r : Fin 512) (c : Fin 512) :
    k0_pay2 (F := Ideal) v0 v1 (ix2 r c) = proj (fun k => v0 (ix2 r k)) (fun k c => v1 (ix2 k c)) c := by
  pointwise! [k0_pay2, proj]

/-- The first head's output, from its own slices of keys and values. -/
theorem head_first (v0 : FVec Ideal S512x1024 .bf16) (v1 : FVec Ideal S1024x512 .bf16) (v4 v5 : FVec Ideal S256x128 .bf16)
    (kv : Fin 256 → Fin 1024 → EReal) (hk : ∀ j (d : Fin 128), v4 (ix2 j d) = kv j ⟨d.val, by omega⟩)
    (hv : ∀ j (d : Fin 128), v5 (ix2 j d) = kv j ⟨512 + d.val, by omega⟩) (r : Fin 512) (d : Fin 128) :
    k0_pay3 (F := Ideal) v0 v1 v4 v5 (ix2 r d) = head (proj (fun k => v0 (ix2 r k)) (fun k c => v1 (ix2 k c))) kv 0 d := by
  pointwise [k0_pay3, query, hk, hv]
  simp only [head, soft, score, Fin.val_zero, Nat.zero_mul, Nat.zero_add]
  rfl

/-- The second head's softmax weights, from its slice of keys. -/
theorem weights_second (v0 : FVec Ideal S512x1024 .bf16) (v1 : FVec Ideal S1024x512 .bf16) (v21 : FVec Ideal S256x128 .bf16)
    (kv : Fin 256 → Fin 1024 → EReal) (hk : ∀ j (d : Fin 128), v21 (ix2 j d) = kv j ⟨128 + d.val, by omega⟩) (r : Fin 512) (j : Fin 256) :
    k0_pay4 (F := Ideal) v0 v1 v21 (ix2 r j) = soft (score (proj (fun k => v0 (ix2 r k)) (fun k c => v1 (ix2 k c))) kv 1) j := by
  pointwise [k0_pay4, query, hk]
  simp only [soft, score, Fin.val_one, Nat.one_mul]
  rfl

/-- The four heads side by side, when the first head, the second head's weights and the slices are what they should be. -/
theorem heads (v3 : FVec Ideal S512x512 .bf16) (v20 : FVec Ideal S512x128 .f32) (v36 : FVec Ideal S512x256 .bf16)
    (v22 v38 v39 v55 v56 : FVec Ideal S256x128 .bf16) (q : Fin 512 → EReal) (kv : Fin 256 → Fin 1024 → EReal) (r : Fin 512)
    (hq : ∀ c, v3 (ix2 r c) = q c) (h0 : ∀ d, v20 (ix2 r d) = head q kv 0 d) (h1 : ∀ j, v36 (ix2 r j) = soft (score q kv 1) j)
    (hv1 : ∀ j (d : Fin 128), v22 (ix2 j d) = kv j ⟨640 + d.val, by omega⟩)
    (hk2 : ∀ j (d : Fin 128), v38 (ix2 j d) = kv j ⟨256 + d.val, by omega⟩)
    (hv2 : ∀ j (d : Fin 128), v39 (ix2 j d) = kv j ⟨768 + d.val, by omega⟩)
    (hk3 : ∀ j (d : Fin 128), v55 (ix2 j d) = kv j ⟨384 + d.val, by omega⟩)
    (hv3 : ∀ j (d : Fin 128), v56 (ix2 j d) = kv j ⟨896 + d.val, by omega⟩) (c : Fin 512) :
    k0_pay5 (F := Ideal) v3 v20 v22 v36 v38 v39 v55 v56 (ix2 r c) = memo q kv c := by
  have split : ∀ (hd : Fin 4) (d : Fin 128) (h : c.val = hd.val * 128 + d.val), memo q kv c = head q kv hd d := by
    intro hd d h
    have e1 : (⟨c.val / 128, by omega⟩ : Fin 4) = hd := Fin.ext (by show c.val / 128 = hd.val; omega)
    have e2 : (⟨c.val % 128, by omega⟩ : Fin 128) = d := Fin.ext (by show c.val % 128 = d.val; omega)
    unfold memo; rw [e1, e2]
  pointwise [k0_pay5, hq, h0, h1, hv1, hk2, hv2, hk3, hv3]
  by_cases a : (c : ℕ) < 128
  · rw [dif_pos a, split 0 ⟨c.val, a⟩ (by show c.val = 0 * 128 + c.val; omega)]
  rw [dif_neg a]
  by_cases b : (c : ℕ) - 128 < 128
  · rw [dif_pos b, split 1 ⟨c.val - 128, b⟩ (by show c.val = 1 * 128 + (c.val - 128); omega)]
    unfold head
    exact Finset.sum_congr rfl fun j _ => congrArg (_ * kv j ·) (Fin.ext (by show 640 + (c.val - 128) = 512 + (1 * 128 + (c.val - 128)); omega))
  rw [dif_neg b]
  by_cases e : (c : ℕ) - 128 - 128 < 128
  · rw [dif_pos e, split 2 ⟨c.val - 128 - 128, e⟩ (by show c.val = 2 * 128 + (c.val - 128 - 128); omega)]
    unfold head
    exact Finset.sum_congr rfl fun j _ => congrArg₂ (· * kv j ·) rfl (Fin.ext (by show 768 + (c.val - 128 - 128) = 512 + (2 * 128 + (c.val - 128 - 128)); omega))
  · rw [dif_neg e, split 3 ⟨c.val - 128 - 128 - 128, by omega⟩ (by show c.val = 3 * 128 + (c.val - 128 - 128 - 128); omega)]
    unfold head
    exact Finset.sum_congr rfl fun j _ => congrArg₂ (· * kv j ·) rfl (Fin.ext (by show 896 + (c.val - 128 - 128 - 128) = 512 + (3 * 128 + (c.val - 128 - 128 - 128)); omega))

/-- The first two gated branches, lifted, mixed and added. -/
theorem branches (v0 : FVec Ideal S512x1024 .bf16) (v73 v74 : FVec Ideal S512x512 .f32) (v75 : FVec Ideal S1024x512 .bf16)
    (v81 : FVec Ideal S1x512x1024 .bf16) (v84 : FVec Ideal S1024x1024 .bf16) (v88 : FVec Ideal S1024x512 .bf16)
    (v94 : FVec Ideal S1x512x1024 .bf16) (v97 : FVec Ideal S1024x1024 .bf16)
    (wg : Fin 1024 → Fin 1536 → EReal) (wmix : Fin 1024 → Fin 3072 → EReal) (wb : Fin 3 → Fin 512 → Fin 1024 → EReal)
    (g0 : ∀ k (c : Fin 512), v75 (ix2 k c) = wg k ⟨c.val, by omega⟩) (g1 : ∀ k (c : Fin 512), v88 (ix2 k c) = wg k ⟨512 + c.val, by omega⟩)
    (m0 : ∀ k (c : Fin 1024), v84 (ix2 k c) = wmix k ⟨c.val, by omega⟩) (m1 : ∀ k (c : Fin 1024), v97 (ix2 k c) = wmix k ⟨1024 + c.val, by omega⟩)
    (b0 : ∀ w d, v81 (ix3 0 w d) = wb 0 w d) (b1 : ∀ w d, v94 (ix3 0 w d) = wb 1 w d) (r : Fin 512) (d : Fin 1024) :
    k0_pay6 (F := Ideal) v0 v73 v74 v75 v81 v84 v88 v94 v97 (ix2 r d)
      = lift 0 (fun w => v73 (ix2 r w)) (fun k => v0 (ix2 r k)) wg wmix wb d + lift 1 (fun w => v74 (ix2 r w)) (fun k => v0 (ix2 r k)) wg wmix wb d := by
  pointwise [k0_pay6, g0, g1, m0, m1, b0, b1]
  simp only [lift, silu, proj, Fin.val_zero, Fin.val_one, Nat.zero_mul, Nat.one_mul, Nat.zero_add]

/-- The memory branch's output, gated. -/
theorem gated (v0 : FVec Ideal S512x1024 .bf16) (v72 : FVec Ideal S512x512 .f32) (v102 : FVec Ideal S1024x512 .bf16)
    (wg : Fin 1024 → Fin 1536 → EReal) (g2 : ∀ k (c : Fin 512), v102 (ix2 k c) = wg k ⟨1024 + c.val, by omega⟩) (r : Fin 512) (w : Fin 512) :
    k0_pay7 (F := Ideal) v0 v72 v102 (ix2 r w) = v72 (ix2 r w) * silu (proj (fun k => v0 (ix2 r k)) wg ⟨1024 + w.val, by omega⟩) := by
  pointwise [k0_pay7, g2]
  simp only [silu, proj]

/-- The last payload: the third branch joins, the sum is projected, added to the residual, and normalised. -/
theorem finish (v0 : FVec Ideal S512x1024 .bf16) (v101 : FVec Ideal S512x1024 .f32) (v107 : FVec Ideal S512x512 .bf16)
    (v108 : FVec Ideal S1x512x1024 .bf16) (v111 : FVec Ideal S1024x1024 .bf16) (v116 : FVec Ideal S512x1024 .f32)
    (v118 : FVec Ideal S1024x1024 .bf16) (v131 : FVec Ideal S1x1024 .f32) (mg : Fin 1024 → EReal) (r : Fin 512)
    (hm : ∀ d, v101 (ix2 r d) + Ideal.logistic (∑ k : Fin 1024, v0 (ix2 r k) * v111 (ix2 k d)) * ∑ w : Fin 512, v107 (ix2 r w) * v108 (ix3 0 w d) = mg d)
    (d : Fin 1024) :
    k0_pay1 (F := Ideal) v0 v101 v107 v108 v111 v116 v118 v131 (ix2 r d)
      = rms (resid (fun d => v116 (ix2 r d)) mg (fun k d => v118 (ix2 k d))) (fun d => v131 (ix2 0 d)) d := by
  pointwise [k0_pay1, hm]
  simp only [rms, resid, proj]

set_option maxHeartbeats 1000000 in
/-- The first two branches' payload and the third branch, over the input blocks: the merged row. -/
theorem joined (x0 x1 : FVec Ideal S512x512 .f32) (x2 : FVec Ideal S512x1024 .bf16) (x3 : FVec Ideal S256x1024 .bf16)
    (x4 : FVec Ideal S1024x512 .bf16) (x5 : FVec Ideal S1024x1536 .bf16) (x6 : FVec Ideal S1024x3072 .bf16)
    (x7 : FVec Ideal S3x512x1024 .bf16) (v108 : FVec Ideal S1x512x1024 .bf16) (v111 : FVec Ideal S1024x1024 .bf16)
    (b2 : ∀ w d, v108 (ix3 0 w d) = x7 (ix3 2 w d)) (m2 : ∀ k (c : Fin 1024), v111 (ix2 k c) = x6 (ix2 k ⟨2048 + c.val, by omega⟩)) (r : Fin 512) (d : Fin 1024) :
    k0_pay6 (F := Ideal) x2 x0 x1 (View.ld x5 r0_11) (View.ld x7 r0_12) (View.ld x6 r0_13) (View.ld x5 r0_14) (View.ld x7 r0_15) (View.ld x6 r0_16) (ix2 r d)
        + Ideal.logistic (∑ k : Fin 1024, x2 (ix2 r k) * v111 (ix2 k d))
          * ∑ w : Fin 512, k0_pay7 (F := Ideal) x2 (k0_pay5 (k0_pay2 x2 x4) (k0_pay3 x2 x4 (View.ld x3 r0_2) (View.ld x3 r0_3)) (View.ld x3 r0_5)
              (k0_pay4 x2 x4 (View.ld x3 r0_4)) (View.ld x3 r0_6) (View.ld x3 r0_7) (View.ld x3 r0_8) (View.ld x3 r0_9)) (View.ld x5 r0_17) (ix2 r w)
            * v108 (ix3 0 w d)
      = merged (fun w => x0 (ix2 r w)) (fun w => x1 (ix2 r w)) (fun k => x2 (ix2 r k)) (fun j c => x3 (ix2 j c)) (fun k c => x4 (ix2 k c))
          (fun k c => x5 (ix2 k c)) (fun k c => x6 (ix2 k c)) (fun n w d => x7 (ix3 n w d)) d := by
  have hq : ∀ c, k0_pay2 (F := Ideal) x2 x4 (ix2 r c) = proj (fun k => x2 (ix2 r k)) (fun k c => x4 (ix2 k c)) c :=
    fun c => (query _ _ r c)
  have h0 : ∀ d, k0_pay3 (F := Ideal) x2 x4 (View.ld x3 r0_2) (View.ld x3 r0_3) (ix2 r d)
      = head (proj (fun k => x2 (ix2 r k)) (fun k c => x4 (ix2 k c))) (fun j c => x3 (ix2 j c)) 0 d :=
    fun d => (head_first _ _ _ _ (fun j c => x3 (ix2 j c)) (fun j d => by pointwise) (fun j d => by pointwise) r d)
  have h1 : ∀ j, k0_pay4 (F := Ideal) x2 x4 (View.ld x3 r0_4) (ix2 r j)
      = soft (score (proj (fun k => x2 (ix2 r k)) (fun k c => x4 (ix2 k c))) (fun j c => x3 (ix2 j c)) 1) j :=
    fun j => (weights_second _ _ _ (fun j c => x3 (ix2 j c)) (fun j d => by pointwise) r j)
  have h4 : ∀ c, k0_pay5 (F := Ideal) (k0_pay2 x2 x4) (k0_pay3 x2 x4 (View.ld x3 r0_2) (View.ld x3 r0_3)) (View.ld x3 r0_5) (k0_pay4 x2 x4 (View.ld x3 r0_4)) (View.ld x3 r0_6) (View.ld x3 r0_7) (View.ld x3 r0_8) (View.ld x3 r0_9) (ix2 r c)
      = memo (proj (fun k => x2 (ix2 r k)) (fun k c => x4 (ix2 k c))) (fun j c => x3 (ix2 j c)) c := heads _ _ _ _ _ _ _ _ _ (fun j c => x3 (ix2 j c)) r hq h0 h1
    (fun j d => by pointwise) (fun j d => by pointwise) (fun j d => by pointwise) (fun j d => by pointwise) (fun j d => by pointwise)
  have h7 : ∀ y w, k0_pay7 (F := Ideal) x2 y (View.ld x5 r0_17) (ix2 r w)
      = y (ix2 r w) * silu (proj (fun k => x2 (ix2 r k)) (fun k c => x5 (ix2 k c)) ⟨1024 + w.val, by omega⟩) :=
    fun y w => (gated _ y _ (fun k c => x5 (ix2 k c)) (fun k c => by pointwise) r w)
  rw [branches _ _ _ _ _ _ _ _ _ (fun k c => x5 (ix2 k c)) (fun k c => x6 (ix2 k c)) (fun n w d => x7 (ix3 n w d))
    (fun k c => by pointwise) (fun k c => by pointwise) (fun k c => by pointwise) (fun k c => by pointwise) (fun w d => by pointwise) (fun w d => by pointwise)]
  simp only [h7, h4, b2, m2]
  unfold merged
  unfold lift proj
  pointwise

/-- What a grid point leaves in its output block at row `r`, over its input blocks: the row formulas. -/
theorem out_row (x0 x1 : FVec Ideal S512x512 .f32) (x2 : FVec Ideal S512x1024 .bf16) (x3 : FVec Ideal S256x1024 .bf16)
    (x4 : FVec Ideal S1024x512 .bf16) (x5 : FVec Ideal S1024x1536 .bf16) (x6 : FVec Ideal S1024x3072 .bf16)
    (x7 : FVec Ideal S3x512x1024 .bf16) (x8 : FVec Ideal S1024x1024 .bf16) (x9 : FVec Ideal S512x1024 .f32)
    (x10 : FVec Ideal S1x1024 .f32) (r : Fin 512) (d : Fin 1024) :
    out0_11 (F := Ideal) x0 x1 x2 x3 x4 x5 x6 x7 x8 x9 x10 (ix2 r d)
      = rms (resid (fun d => x9 (ix2 r d))
          (merged (fun w => x0 (ix2 r w)) (fun w => x1 (ix2 r w)) (fun k => x2 (ix2 r k)) (fun j c => x3 (ix2 j c)) (fun k c => x4 (ix2 k c))
            (fun k c => x5 (ix2 k c)) (fun k c => x6 (ix2 k c)) (fun n w d => x7 (ix3 n w d)))
          (fun k d => x8 (ix2 k d))) (fun d => x10 (ix2 0 d)) d := by
  frame_out
  refine (finish _ _ _ _ _ _ _ _ (merged (fun w => x0 (ix2 r w)) (fun w => x1 (ix2 r w)) (fun k => x2 (ix2 r k)) (fun j c => x3 (ix2 j c)) (fun k c => x4 (ix2 k c))
            (fun k c => x5 (ix2 k c)) (fun k c => x6 (ix2 k c)) (fun n w d => x7 (ix3 n w d))) r (joined x0 x1 x2 x3 x4 x5 x6 x7 _ _ (fun w d => by pointwise) (fun k c => by pointwise) r) d).trans ?_
  pointwise

end Cert.KernelIdeal.Block
end
-- ==== Proof.Final.lean ====
/- The kernel's result array after the run is the reference's result over the arguments. -/
module

public import proofs.«01_k».proof.Proof.Block
public import proofs.«01_k».proof.Proof.RefAt
@[expose] public section

set_option maxRecDepth 16384
noncomputable section
open Idealize.ShloMosaic Idealize.ShloMosaic.TcCoe Idealize.SL.Sem
open Idealize.ShloMosaic.Pipeline (Dat)

namespace Cert.KernelIdeal.Final
open Cert.KernelIdeal Cert.KernelIdeal.Gen Cert.Row
variable (m : (ℓ : Loc nD τ sig) → Buf (Elt Ideal) ℓ)

/-- The reference's result over the kernel's arguments. -/
def ref (c : Dev nD) : FVec Ideal S16384x1024 .f32 :=
  Cert.ReferenceIdeal.Stage.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- Which block each window stages at each grid point. -/
theorem idx : ∀ t : Fin cfg0.N, win0_0.index t = ![t.val, 0] ∧ win0_1.index t = ![t.val, 0] ∧ win0_2.index t = ![t.val, 0]
    ∧ win0_3.index t = ![t.val / 16, 0] ∧ win0_4.index t = ![0, 0] ∧ win0_5.index t = ![0, 0] ∧ win0_6.index t = ![0, 0]
    ∧ win0_7.index t = ![0, 0, 0] ∧ win0_8.index t = ![0, 0] ∧ win0_9.index t = ![t.val, 0] ∧ win0_10.index t = ![0, 0] ∧ win0_11.index t = ![t.val, 0] ∧ t.val < 32 :=
  (by decide +kernel : ∀ t : Fin grid0.N, _)

/-- A grid point's output row `r` is the reference's row at the place the block has in the array. -/
theorem point (c : Dev nD) (t : Fin cfg0.N) (r : Fin 512) (d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d)
      = ref m c (ix2 ⟨t.val * 512 + r.val, by have := (idx t).2.2.2.2.2.2.2.2.2.2.2.2; omega⟩ d) := by
  have ht := (idx t).2.2.2.2.2.2.2.2.2.2.2.2
  refine (Block.out_row _ _ _ _ _ _ _ _ _ _ _ r d).trans ?_
  refine Eq.trans ?_ (Cert.ReferenceIdeal.Stage.result_at _ _ _ _ _ _ _ _ _ _ _ _ d).symm
  have e0 : (fun w => iblk m c 0 t (ix2 r w)) = fun w => m ((c : Thread nD τ).loc main_arg0) (ix2 ⟨t.val * 512 + r.val, by omega⟩ w) := by
    funext w; blk_ext [iblk, V, idx t]
  have e1 : (fun w => iblk m c 1 t (ix2 r w)) = fun w => m ((c : Thread nD τ).loc main_arg1) (ix2 ⟨t.val * 512 + r.val, by omega⟩ w) := by
    funext w; blk_ext [iblk, V, idx t]
  have e2 : (fun w => iblk m c 2 t (ix2 r w)) = fun w => m ((c : Thread nD τ).loc main_arg2) (ix2 ⟨t.val * 512 + r.val, by omega⟩ w) := by
    funext w; blk_ext [iblk, V, idx t]
  have e3 : (fun j w => iblk m c 3 t (ix2 j w)) = fun (j : Fin 256) w => m ((c : Thread nD τ).loc main_arg3) (ix2 ⟨(t.val * 512 + r.val) / 8192 * 256 + j.val, by omega⟩ w) := by
    funext j w; blk_ext [iblk, V, idx t]
  have e4 : (fun k w => iblk m c 4 t (ix2 k w)) = fun k w => m ((c : Thread nD τ).loc main_arg4) (ix2 k w) := by
    funext k w; blk_ext [iblk, V, idx t]
  have e5 : (fun k w => iblk m c 5 t (ix2 k w)) = fun k w => m ((c : Thread nD τ).loc main_arg5) (ix2 k w) := by
    funext k w; blk_ext [iblk, V, idx t]
  have e6 : (fun k w => iblk m c 6 t (ix2 k w)) = fun k w => m ((c : Thread nD τ).loc main_arg6) (ix2 k w) := by
    funext k w; blk_ext [iblk, V, idx t]
  have e7 : (fun n k w => iblk m c 7 t (ix3 n k w)) = fun n k w => m ((c : Thread nD τ).loc main_arg7) (ix3 n k w) := by
    funext n k w; blk_ext [iblk, V, idx t]
  have e8 : (fun k w => iblk m c 8 t (ix2 k w)) = fun k w => m ((c : Thread nD τ).loc main_arg8) (ix2 k w) := by
    funext k w; blk_ext [iblk, V, idx t]
  have e9 : (fun w => iblk m c 9 t (ix2 r w)) = fun w => m ((c : Thread nD τ).loc main_arg9) (ix2 ⟨t.val * 512 + r.val, by omega⟩ w) := by
    funext w; blk_ext [iblk, V, idx t]
  have e10 : (fun w => iblk m c 10 t (ix2 0 w)) = fun w => m ((c : Thread nD τ).loc main_arg10) (ix1 w) := by
    funext w
    blk_simp [iblk, idx t]
    entry_read
    pointwise
    blk_ext [idx t]
  rw [e0, e1, e2, e3, e4, e5, e6, e7, e8, e9, e10]

/-- The result array after the run. -/
theorem final (c : Dev nD) : (dats m 0 c).arrAt 11 (cfgs 0).N = ref m c := by
  refine (dats m 0 c).arrAt_eq_of_covers 11 _ (by decide +kernel) fun t _ y => ?_
  blk_simp
  rw [after0_11]
  idx_vars y
  refine (point m c t y0 y1).trans ?_
  blk_ext [idx t]
end Cert.KernelIdeal.Final
end
-- ==== Proof.InKeys.lean ====
/- The input projections' key, value and head-weight blocks: what the kernel writes of them at a point, read at an index. -/
module

public import Idealize.ShloMosaic.Lib.Pipeline.ValueKit
public import Idealize.ShloMosaic.Lib.Pointwise
public import Idealize.ShloMosaic.Lib.IdealHost
public import proofs.«01_k».proof.Proof.Gen.InProjIdeal.Frame
@[expose] public section

set_option maxRecDepth 16384
noncomputable section
open Idealize.ShloMosaic Idealize.ShloMosaic.TcCoe Idealize.SL.Sem

namespace Cert.InProjIdeal.Block
open Cert.InProjIdeal Cert.InProjIdeal.Gen
/-- One output column of the keys. -/
def roped (T : FVec Ideal S1024x1152 .f32) (c s1 s2 : FVec Ideal S1024x128 .f32) (r : Fin 1024) (q : Fin 1152) : EReal :=
  T (ix2 r q) * c (ix2 r ⟨q.val % 128, by omega⟩)
    + T (ix2 r ⟨q.val / 128 * 128 + (q.val % 128 + 128 - 120) % 128, by omega⟩) * s1 (ix2 r ⟨q.val % 128, by omega⟩)
    + T (ix2 r ⟨q.val / 128 * 128 + (q.val % 128 + 128 - 8) % 128, by omega⟩) * s2 (ix2 r ⟨q.val % 128, by omega⟩)

/-- What the kernel writes of the keys, at an entry of its block. -/
theorem out_k (x0 : FVec Ideal S1024x1024 .bf16) (x1 : FVec Ideal S1024x1152 .bf16) (x2 : FVec Ideal S1536x1024 .bf16) (x3 : FVec Ideal S1024x1024 .bf16)
    (x4 : FVec Ideal S16x1024 .bf16) (x5 x6 x7 : FVec Ideal S1024x128 .f32) (x8 x9 : FVec Ideal S8x1024 .f32) (y : S1024x1152.Idx) (r : Fin 1024) (q : Fin 1152)
    (hr : (y 0).val = r.val) (hq : (y 1).val = q.val) :
    out0_10 (F := Ideal) x0 x1 x2 x3 x4 x5 x6 x7 x8 x9 y = roped (k0_pay3 x0 x1) x5 x6 x7 r q := by
  unfold_out out0_10
  canon_tiles x h
  all_goals
    open_payloads
    pointwise [roped, h0, h1]
    blk_point []

/-- The keys' product at an entry. -/
theorem k3_at (h : FVec Ideal S1024x1024 .bf16) (w : FVec Ideal S1024x1152 .bf16) (r : Fin 1024) (q : Fin 1152) :
    k0_pay3 (F := Ideal) h w (ix2 r q) = ∑ k : Fin 1024, h (ix2 r k) * w (ix2 k q) := by pointwise [k0_pay3]

/-- What the kernel writes of the values, at an entry of its block. -/
theorem out_vt (x0 : FVec Ideal S1024x1024 .bf16) (x1 : FVec Ideal S1024x1152 .bf16) (x2 : FVec Ideal S1536x1024 .bf16) (x3 : FVec Ideal S1024x1024 .bf16)
    (x4 : FVec Ideal S16x1024 .bf16) (x5 x6 x7 : FVec Ideal S1024x128 .f32) (x8 x9 : FVec Ideal S8x1024 .f32) (y : S1024x1024.Idx) (r q : Fin 1024)
    (hr : (y 0).val = r.val) (hq : (y 1).val = q.val) :
    out0_12 (F := Ideal) x0 x1 x2 x3 x4 x5 x6 x7 x8 x9 y = (∑ k : Fin 1024, x3 (ix2 r k) * x0 (ix2 q k) : EReal) := by
  unfold_out out0_12
  canon_tiles x h
  all_goals
    open_payloads
    pointwise [h0, h1]
    blk_point []

/-- What the kernel writes of the head weights, at an entry of its block. -/
theorem out_iw (x0 : FVec Ideal S1024x1024 .bf16) (x1 : FVec Ideal S1024x1152 .bf16) (x2 : FVec Ideal S1536x1024 .bf16) (x3 : FVec Ideal S1024x1024 .bf16)
    (x4 : FVec Ideal S16x1024 .bf16) (x5 x6 x7 : FVec Ideal S1024x128 .f32) (x8 x9 : FVec Ideal S8x1024 .f32) (y : S16x1024.Idx) (r : Fin 16) (q : Fin 1024)
    (hr : (y 0).val = r.val) (hq : (y 1).val = q.val) :
    out0_13 (F := Ideal) x0 x1 x2 x3 x4 x5 x6 x7 x8 x9 y = (∑ k : Fin 1024, x4 (ix2 r k) * x0 (ix2 q k) : EReal) := by
  unfold_out out0_13
  canon_tiles x h
  all_goals
    open_payloads
    pointwise [h0, h1]
    blk_point []

end Cert.InProjIdeal.Block

end
-- ==== Proof.InRef.lean ====
/- The input projections' reference, named stage by stage, and each stage read at an index. -/
module

public import Idealize.ShloMosaic.Lib.Pipeline.ValueKit
public import Idealize.ShloMosaic.Lib.Pointwise
public import Idealize.ShloMosaic.Lib.IdealHost
public import proofs.«01_k».proof.Proof.Gen.InProjRefIdeal.Run
@[expose] public section

set_option maxRecDepth 16384
noncomputable section
open Idealize.ShloMosaic Idealize.ShloMosaic.TcCoe Idealize.SL.Sem

namespace Cert.InProjRefIdeal.Stage
open Cert.InProjRefIdeal Cert.InProjRefIdeal.Gen

/-- All the projections: the input times the layer's input weights. -/
def projT (H : FVec Ideal S16384x1024 .bf16) (W : FVec Ideal S1024x8776 .f32) : FVec Ideal S2x8192x8776 .f32 :=
  Host.dotGeneral dot_S2x8192x1024_S1024x8776_S2x8192x8776_2_0_01_1_n_n none (shapeCast _ (extf .f32 H bitsLt_bf16_f32) shapeCasts_S16384x1024_S2x8192x1024) W

/-- The rotated projections side by side, as heads of 64: keys of the two attentions and of the indexer, then their queries. -/
def headsT (P : FVec Ideal S2x8192x8776 .f32) : FVec Ideal S2x8192x41x64 .f32 :=
  shapeCast _ (concatenate S2x8192x2624 2 [⟨S2x8192x1088, concatenate S2x8192x1088 2 [⟨S2x8192x512, extractStridedSlice S2x8192x512 ![0, 0, 512] P slices_S2x8192x8776_S2x8192x512_0_0_512⟩,
      ⟨S2x8192x512, extractStridedSlice S2x8192x512 ![0, 0, 2560] P slices_S2x8192x8776_S2x8192x512_0_0_2560⟩,
      ⟨S2x8192x64, extractStridedSlice S2x8192x64 ![0, 0, 4608] P slices_S2x8192x8776_S2x8192x64_0_0_4608⟩] concatenates_S2x8192x512_S2x8192x512_S2x8192x64_S2x8192x1088_d2⟩,
    ⟨S2x8192x1536, concatenate S2x8192x1536 2 [⟨S2x8192x512, extractStridedSlice S2x8192x512 ![0, 0, 0] P slices_S2x8192x8776_S2x8192x512_0_0_0⟩,
      ⟨S2x8192x512, extractStridedSlice S2x8192x512 ![0, 0, 2048] P slices_S2x8192x8776_S2x8192x512_0_0_2048⟩,
      ⟨S2x8192x512, extractStridedSlice S2x8192x512 ![0, 0, 4096] P slices_S2x8192x8776_S2x8192x512_0_0_4096⟩] concatenates_S2x8192x512_S2x8192x512_S2x8192x512_S2x8192x1536_d2⟩] concatenates_S2x8192x1088_S2x8192x1536_S2x8192x2624_d2) shapeCasts_S2x8192x2624_S2x8192x41x64

/-- The angles: position times a power of the base. -/
def angT : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- A table over positions, spread over batch entries and heads. -/
def tabT (T : FVec Ideal S8192x8 .f32) : FVec Ideal S2x8192x41x8 .f32 :=
  broadcastInDim S2x8192x41x8 ![0, 1, 2, 3] bcast_S1x8192x1x8_S2x8192x41x8_0_1_2_3 (broadcastInDim S1x8192x1x8 ![1, 2, 3] bcast_S8192x1x8_S1x8192x1x8_1_2_3 (broadcastInDim S8192x1x8 ![0, 2] bcast_S8192x8_S8192x1x8_0_2 T))

/-- The first sixteen features of every head rotated by the position's angles. -/
def ropeT (X : FVec Ideal S2x8192x41x64 .f32) (C S : FVec Ideal S8192x8 .f32) : FVec Ideal S2x8192x41x64 .f32 :=
  concatenate S2x8192x41x64 3 [⟨S2x8192x41x8, subf (mulf (extractStridedSlice S2x8192x41x8 ![0, 0, 0, 0] X slices_S2x8192x41x64_S2x8192x41x8_0_0_0_0) (tabT C)) (mulf (extractStridedSlice S2x8192x41x8 ![0, 0, 0, 8] X slices_S2x8192x41x64_S2x8192x41x8_0_0_0_8) (tabT S))⟩,
    ⟨S2x8192x41x8, addf (mulf (extractStridedSlice S2x8192x41x8 ![0, 0, 0, 8] X slices_S2x8192x41x64_S2x8192x41x8_0_0_0_8) (tabT C)) (mulf (extractStridedSlice S2x8192x41x8 ![0, 0, 0, 0] X slices_S2x8192x41x64_S2x8192x41x8_0_0_0_0) (tabT S))⟩,
    ⟨S2x8192x41x48, extractStridedSlice S2x8192x41x48 ![0, 0, 0, 16] X slices_S2x8192x41x64_S2x8192x41x48_0_0_0_16⟩] concatenates_S2x8192x41x8_S2x8192x41x8_S2x8192x41x48_S2x8192x41x64_d3

/-- The rotated heads, one row per token. -/
def flatT (H : FVec Ideal S16384x1024 .bf16) (W : FVec Ideal S1024x8776 .f32) : FVec Ideal S16384x2624 .f32 :=
  shapeCast _ (ropeT (headsT (projT H W)) (Host.cos angT) (Host.sin angT)) shapeCasts_S2x8192x41x64_S16384x2624

/-- The keys, the indexer's twice. -/
def kT (X : FVec Ideal S16384x2624 .f32) : FVec Ideal S16384x1152 .bf16 :=
  truncf .bf16 (concatenate S16384x1152 1 [⟨S16384x1088, extractStridedSlice S16384x1088 ![0, 0] X slices_S16384x2624_S16384x1088_0_0⟩,
    ⟨S16384x64, extractStridedSlice S16384x64 ![0, 1024] X slices_S16384x2624_S16384x64_0_1024⟩] concatenates_S16384x1088_S16384x64_S16384x1152_d1) bitsLt_bf16_f32

/-- The scaled queries, one column per token. -/
def qT (X : FVec Ideal S16384x2624 .f32) : FVec Ideal S1536x16384 .bf16 :=
  truncf .bf16 (transpose S1536x16384 [1, 0] (concatenate S16384x1536 1 [⟨S16384x1024, mulf (extractStridedSlice S16384x1024 ![0, 1088] X slices_S16384x2624_S16384x1024_0_1088) (broadcastInDim S16384x1024 ![] bcast_S_S16384x1024 (constant S_ .f32 0x3E38AA3B#32))⟩,
    ⟨S16384x512, mulf (extractStridedSlice S16384x512 ![0, 2112] X slices_S16384x2624_S16384x512_0_2112) (broadcastInDim S16384x512 ![] bcast_S_S16384x512 (constant S_ .f32 0x3E000000#32))⟩] concatenates_S16384x1024_S16384x512_S16384x1536_d1) transposes_S16384x1536_S1536x16384_1_0) bitsLt_bf16_f32

/-- The values, one column per token. -/
def vT (P : FVec Ideal S2x8192x8776 .f32) : FVec Ideal S1024x16384 .bf16 :=
  truncf .bf16 (transpose S1024x16384 [1, 0] (concatenate S16384x1024 1 [⟨S16384x512, shapeCast _ (extractStridedSlice S2x8192x512 ![0, 0, 1024] P slices_S2x8192x8776_S2x8192x512_0_0_1024) shapeCasts_S2x8192x512_S16384x512⟩,
    ⟨S16384x512, shapeCast _ (extractStridedSlice S2x8192x512 ![0, 0, 3072] P slices_S2x8192x8776_S2x8192x512_0_0_3072) shapeCasts_S2x8192x512_S16384x512⟩] concatenates_S16384x512_S16384x512_S16384x1024_d1) transposes_S16384x1024_S1024x16384_1_0) bitsLt_bf16_f32

/-- The indexer's head weights, one column per token, under eight rows of zeros. -/
def iwT (P : FVec Ideal S2x8192x8776 .f32) : FVec Ideal S16x16384 .f32 :=
  concatenate S16x16384 0 [⟨S8x16384, transpose S8x16384 [1, 0] (shapeCast _ (extractStridedSlice S2x8192x8 ![0, 0, 4672] P slices_S2x8192x8776_S2x8192x8_0_0_4672) shapeCasts_S2x8192x8_S16384x8) transposes_S16384x8_S8x16384_1_0⟩,
    ⟨S8x16384, broadcastInDim S8x16384 ![] bcast_S_S8x16384 (constant S_ .f32 0x00000000#32)⟩] concatenates_S8x16384_S8x16384_S16x16384_d0

/-- The first result of the reference in the named stages. -/
theorem k_eq (m : (ℓ : Loc nD τ sig) → Buf (Elt Ideal) ℓ) (c : Dev nD) : Value.res_out0 m c
    = kT (flatT (m ((c.tc : Thread nD τ).loc main_arg0)) (m ((c.tc : Thread nD τ).loc main_arg1))) := by
  unfold Value.res_out0 Value.res_main_v71 kT flatT ropeT headsT projT tabT angT
  rfl

/-- The second result of the reference in the named stages. -/
theorem q_eq (m : (ℓ : Loc nD τ sig) → Buf (Elt Ideal) ℓ) (c : Dev nD) : Value.res_out1 m c
    = qT (flatT (m ((c.tc : Thread nD τ).loc main_arg0)) (m ((c.tc : Thread nD τ).loc main_arg1))) := by
  unfold Value.res_out1 Value.res_main_v72 qT flatT ropeT headsT projT tabT angT
  rfl

/-- One feature of a rotated head: `y` the head before, `cs` and `sn` the position's cosines and sines. -/
def rope (y : Fin 64 → EReal) (cs sn : Fin 8 → EReal) (e : Fin 64) : EReal :=
  if h : e.val < 8 then y e * cs ⟨e.val, h⟩ - y ⟨e.val + 8, by omega⟩ * sn ⟨e.val, h⟩
  else if h : e.val - 8 < 8 then y e * cs ⟨e.val - 8, h⟩ + y ⟨e.val - 8, by omega⟩ * sn ⟨e.val - 8, h⟩
  else y e

/-- The projection of token `i` by column `w`. -/
def prj (H : FVec Ideal S16384x1024 .bf16) (W : FVec Ideal S1024x8776 .f32) (i : Fin 16384) (w : Fin 8776) : EReal :=
  ∑ k : Fin 1024, H (ix2 i k) * W (ix2 k w)

/-- The projections at an index. -/
theorem projT_at (H : FVec Ideal S16384x1024 .bf16) (W : FVec Ideal S1024x8776 .f32) (b : Fin 2) (s : Fin 8192) (w : Fin 8776) :
    projT H W (ix3 b s w) = prj H W ⟨b.val * 8192 + s.val, by omega⟩ w := by
  pointwise [projT, prj]

/-- Which column of the input weights is column `j` of the rotated projections. -/
def col (j : Fin 2624) : Fin 8776 :=
  if h : j.val < 512 then ⟨512 + j.val, by omega⟩ else if h : j.val < 1024 then ⟨2560 + (j.val - 512), by omega⟩
  else if h : j.val < 1088 then ⟨4608 + (j.val - 1024), by omega⟩ else if h : j.val < 1600 then ⟨j.val - 1088, by omega⟩
  else if h : j.val < 2112 then ⟨2048 + (j.val - 1600), by omega⟩ else ⟨4096 + (j.val - 2112), by omega⟩

/-- The heads at an index: a feature of a head is a column of the projections. -/
theorem headsT_at (P : FVec Ideal S2x8192x8776 .f32) (b : Fin 2) (s : Fin 8192) (n : Fin 41) (e : Fin 64) :
    headsT P (ix4 b s n e) = P (ix3 b s (col ⟨n.val * 64 + e.val, by omega⟩)) := by
  pointwise [headsT, col]
  blk_point []
  all_goals split_ifs <;> first | omega | (dsimp only <;> omega)

/-- A spread table at an index. -/
theorem tabT_at (T : FVec Ideal S8192x8 .f32) (b : Fin 2) (s : Fin 8192) (n : Fin 41) (e : Fin 8) : tabT T (ix4 b s n e) = T (ix2 s e) := by
  pointwise [tabT]

/-- The rotated heads at an index. -/
theorem ropeT_at (X : FVec Ideal S2x8192x41x64 .f32) (C S : FVec Ideal S8192x8 .f32) (b : Fin 2) (s : Fin 8192) (n : Fin 41) (e : Fin 64) :
    ropeT X C S (ix4 b s n e) = rope (fun e => X (ix4 b s n e)) (fun f => C (ix2 s f)) (fun f => S (ix2 s f)) e := by
  pointwise [ropeT, rope, tabT_at]
  blk_point []

/-- The rotated heads, one row per token, at an index. -/
theorem flatT_at (H : FVec Ideal S16384x1024 .bf16) (W : FVec Ideal S1024x8776 .f32) (i : Fin 16384) (j : Fin 2624) :
    flatT H W (ix2 i j) = rope (fun e => prj H W i (col ⟨j.val / 64 * 64 + e.val, by omega⟩)) (fun f => Ideal.cos (angT (ix2 ⟨i.val % 8192, by omega⟩ f)))
      (fun f => Ideal.sin (angT (ix2 ⟨i.val % 8192, by omega⟩ f))) ⟨j.val % 64, by omega⟩ := by
  have hi : (⟨i.val / 8192 * 8192 + i.val % 8192, by omega⟩ : Fin 16384) = i := Fin.ext (by dsimp only; omega)
  unfold flatT
  pointwise [ropeT_at, headsT_at, projT_at]
  simp only [hi]

/-- The keys at an index. -/
theorem kT_at (X : FVec Ideal S16384x2624 .f32) (i : Fin 16384) (q : Fin 1152) :
    kT X (ix2 i q) = X (ix2 i ⟨if q.val < 1088 then q.val else q.val - 64, by split <;> omega⟩) := by
  pointwise [kT]
  blk_point []
  all_goals split_ifs <;> omega

/-- The values at an index. -/
theorem vT_at (P : FVec Ideal S2x8192x8776 .f32) (r : Fin 1024) (i : Fin 16384) :
    vT P (ix2 r i) = P (ix3 ⟨i.val / 8192, by omega⟩ ⟨i.val % 8192, by omega⟩ ⟨if r.val < 512 then 1024 + r.val else 3072 + (r.val - 512), by split <;> omega⟩) := by
  pointwise [vT]
  blk_point []
  all_goals split_ifs <;> omega

/-- The head weights at an index. -/
theorem iwT_at (P : FVec Ideal S2x8192x8776 .f32) (r : Fin 16) (i : Fin 16384) :
    iwT P (ix2 r i) = if h : r.val < 8 then P (ix3 ⟨i.val / 8192, by omega⟩ ⟨i.val % 8192, by omega⟩ ⟨4672 + r.val, by omega⟩) else 0 := by
  pointwise [iwT]

/-- The scaled queries at an index. -/
theorem qT_at (X : FVec Ideal S16384x2624 .f32) (r : Fin 1536) (i : Fin 16384) :
    qT X (ix2 r i) = X (ix2 i ⟨1088 + r.val, by omega⟩) * (if r.val < 1024 then constant (F := Ideal) S_ .f32 0x3E38AA3B#32 ix0 else constant (F := Ideal) S_ .f32 0x3E000000#32 ix0) := by
  pointwise [qT]
  split_ifs with h
  · rfl
  all_goals exact congrArg (fun z => X (ix2 i z) * Ideal.ofBits FTy.f32 1040187392#32) (Fin.ext (by dsimp only; omega))

/-- The reference run, its four results in the named stages. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = kT (flatT (m ((c.tc : Thread nD τ).loc main_arg0)) (m ((c.tc : Thread nD τ).loc main_arg1)))
      ∧ r.2.mem ((c.tc : Thread nD τ).loc main_v72) = qT (flatT (m ((c.tc : Thread nD τ).loc main_arg0)) (m ((c.tc : Thread nD τ).loc main_arg1)))
      ∧ r.2.mem ((c.tc : Thread nD τ).loc main_v73) = vT (projT (m ((c.tc : Thread nD τ).loc main_arg0)) (m ((c.tc : Thread nD τ).loc main_arg1)))
      ∧ r.2.mem ((c.tc : Thread nD τ).loc main_v70) = iwT (projT (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (k_eq m c), (h c).2.1.trans (q_eq m c), (h c).2.2.1.trans rfl, (h c).2.2.2.1.trans rfl, (h c).2.2.2.2.1, (h c).2.2.2.2.2⟩) (Value.run m ρ)

end Cert.InProjRefIdeal.Stage

end
-- ==== Proof.InHost.lean ====
/- What the kernel's host lines hand the call: the arranged weights and the tables, read at an index. -/
module

public import Idealize.ShloMosaic.Lib.Pipeline.ValueKit
public import Idealize.ShloMosaic.Lib.Pointwise
public import Idealize.ShloMosaic.Lib.IdealHost
public import proofs.«01_k».proof.Proof.Gen.InProjIdeal.Frame
public import proofs.«01_k».proof.Proof.InRef
@[expose] public section

set_option maxRecDepth 16384
noncomputable section
open Idealize.ShloMosaic Idealize.ShloMosaic.TcCoe Idealize.SL.Sem

namespace Cert.InProjIdeal.Host0
open Cert.InProjIdeal Cert.InProjIdeal.Gen
variable (m : (ℓ : Loc nD τ sig) → Buf (Elt Ideal) ℓ)

/-- The weights' columns of the keys, side by side. -/
def wkT (W : FVec Ideal S1024x8776 .f32) : FVec Ideal S1024x1152 .bf16 :=
  truncf .bf16 (concatenate S1024x1152 1 [⟨S1024x512, extractStridedSlice S1024x512 ![0, 512] W slices_S1024x8776_S1024x512_0_512⟩,
    ⟨S1024x512, extractStridedSlice S1024x512 ![0, 2560] W slices_S1024x8776_S1024x512_0_2560⟩,
    ⟨S1024x64, extractStridedSlice S1024x64 ![0, 4608] W slices_S1024x8776_S1024x64_0_4608⟩,
    ⟨S1024x64, extractStridedSlice S1024x64 ![0, 4608] W slices_S1024x8776_S1024x64_0_4608⟩] concatenates_S1024x512_S1024x512_S1024x64_S1024x64_S1024x1152_d1) bitsLt_bf16_f32

/-- A constant over one projection's columns. -/
def scaleT (z : BitVec 32) : FVec Ideal S1024x512 .f32 := broadcastInDim S1024x512 ![] bcast_S_S1024x512 (constant S_ .f32 z)

/-- The weights' columns of the queries, scaled, as rows. -/
def wqT (W : FVec Ideal S1024x8776 .f32) : FVec Ideal S1536x1024 .bf16 :=
  truncf .bf16 (transpose S1536x1024 [1, 0] (concatenate S1024x1536 1 [⟨S1024x512, mulf (extractStridedSlice S1024x512 ![0, 0] W slices_S1024x8776_S1024x512_0_0) (scaleT 0x3E38AA3B#32)⟩,
    ⟨S1024x512, mulf (extractStridedSlice S1024x512 ![0, 2048] W slices_S1024x8776_S1024x512_0_2048) (scaleT 0x3E38AA3B#32)⟩,
    ⟨S1024x512, mulf (extractStridedSlice S1024x512 ![0, 4096] W slices_S1024x8776_S1024x512_0_4096) (scaleT 0x3E000000#32)⟩] concatenates_S1024x512_S1024x512_S1024x512_S1024x1536_d1) transposes_S1024x1536_S1536x1024_1_0) bitsLt_bf16_f32

/-- The weights' columns of the values, as rows. -/
def wvT (W : FVec Ideal S1024x8776 .f32) : FVec Ideal S1024x1024 .bf16 :=
  truncf .bf16 (transpose S1024x1024 [1, 0] (concatenate S1024x1024 1 [⟨S1024x512, extractStridedSlice S1024x512 ![0, 1024] W slices_S1024x8776_S1024x512_0_1024⟩,
    ⟨S1024x512, extractStridedSlice S1024x512 ![0, 3072] W slices_S1024x8776_S1024x512_0_3072⟩] concatenates_S1024x512_S1024x512_S1024x1024_d1) transposes_S1024x1024_S1024x1024_1_0) bitsLt_bf16_f32

/-- The weights' columns of the head weights, as rows over eight rows of zeros. -/
def wiT (W : FVec Ideal S1024x8776 .f32) : FVec Ideal S16x1024 .bf16 :=
  truncf .bf16 (pad S16x1024 ![0, 0] ![8, 0] ![0, 0] (transpose S8x1024 [1, 0] (extractStridedSlice S1024x8 ![0, 4672] W slices_S1024x8776_S1024x8_0_4672) transposes_S1024x8_S8x1024_1_0)
    (sitofp (F := Ideal) .f32 (constantI S_ 32 0#32)) pads_S8x1024_S16x1024_080_000 h_S_) bitsLt_bf16_f32

/-- Which angle each of the 128 columns of a table reads. -/
def pickI : IVec S128x1 32 :=
  broadcastInDim S128x1 ![0] bcast_S128_S128x1_0 (select (constantI S128 1 0#1)
    (addi (fun i => lit3 (S128.rowMajor i)) (broadcastInDim S128 ![] bcast_S_S128 (constantI S_ 32 8#32))) fun i => lit3 (S128.rowMajor i))

/-- A table of 128 columns: the picked angle's value where the mask is set, a constant elsewhere. -/
def maskT (g : Fin 128 → BitVec 1) (X : FVec Ideal S8192x128 .f32) (z : BitVec 32) : FVec Ideal S8192x128 .f32 :=
  select (broadcastInDim S8192x128 ![0, 1] bcast_S1x128_S8192x128_0_1 (broadcastInDim S1x128 ![1] bcast_S128_S1x128_1 fun i => g (S128.rowMajor i))) X
    (broadcastInDim S8192x128 ![] bcast_S_S8192x128 (constant S_ .f32 z))

/-- A table of eight angles spread to 128 columns. -/
def spreadT (X : FVec Ideal S8192x8 .f32) : FVec Ideal S8192x128 .f32 := Host.gather gather_S8192x8_S128x1_S8192x128_0_1_n_n_1_1_81921 X pickI

/-- The angles, position by frequency. -/
abbrev ang : FVec Ideal S8192x8 .f32 := Cert.InProjRefIdeal.Stage.angT

/-- The weights the host lines leave in the call's operands. -/
theorem operands (c : Dev nD) : V m c main_v44 = wkT (m ((c.tc : Thread nD τ).loc main_arg1)) ∧ V m c main_v56 = wqT (m ((c.tc : Thread nD τ).loc main_arg1))
    ∧ V m c main_v61 = wvT (m ((c.tc : Thread nD τ).loc main_arg1)) ∧ V m c main_v65 = wiT (m ((c.tc : Thread nD τ).loc main_arg1)) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  refine ⟨?_, ?_, ?_, ?_⟩
  · after_results_simp <;> (try dsimp only [Matrix.cons_val]) <;> (try after_results_simp) <;> (try dsimp only [Matrix.cons_val]) <;> (try after_results_simp) <;> rfl
  · after_results_simp <;> (try dsimp only [Matrix.cons_val]) <;> (try after_results_simp) <;> (try dsimp only [Matrix.cons_val]) <;> (try after_results_simp) <;> rfl
  · after_results_simp
    rfl
  · after_results_simp
    rfl

/-- The tables the host lines leave in the call's operands. -/
theorem tables (c : Dev nD) : V m c main_v21 = maskT lit2 (spreadT (Host.cos ang)) 0x3F800000#32 ∧ V m c main_v29 = maskT lit0 (Host.negf (spreadT (Host.sin ang))) 0x00000000#32
    ∧ V m c main_v36 = maskT lit1 (spreadT (Host.sin ang)) 0x00000000#32
    ∧ V m c main_v37 = transpose S8x8192 [1, 0] (Host.cos ang) transposes_S8192x8_S8x8192_1_0 ∧ V m c main_v38 = transpose S8x8192 [1, 0] (Host.sin ang) transposes_S8192x8_S8x8192_1_0 := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  refine ⟨?_, ?_, ?_, ?_, ?_⟩
  · after_results_simp
    rfl
  · after_results_simp
    rfl
  · after_results_simp
    rfl
  · after_results_simp
    rfl
  · after_results_simp
    rfl

/-- Which input column is column `q` of the key weights. -/
def colK (q : Fin 1152) : Fin 8776 :=
  if h : q.val < 512 then ⟨512 + q.val, by omega⟩ else if h : q.val < 1024 then ⟨2560 + (q.val - 512), by omega⟩
  else if h : q.val < 1088 then ⟨4608 + (q.val - 1024), by omega⟩ else ⟨4608 + (q.val - 1088), by omega⟩

/-- The key weights at an index. -/
theorem wkT_at (W : FVec Ideal S1024x8776 .f32) (k : Fin 1024) (q : Fin 1152) : wkT W (ix2 k q) = W (ix2 k (colK q)) := by
  pointwise [wkT, colK]
  blk_point []
  all_goals split_ifs <;> first | omega | (dsimp only <;> omega)

/-- Which input column is row `r` of the query weights. -/
def colQ (r : Fin 1536) : Fin 8776 :=
  if h : r.val < 512 then ⟨r.val, by omega⟩ else if h : r.val < 1024 then ⟨2048 + (r.val - 512), by omega⟩
  else ⟨4096 + (r.val - 1024), by omega⟩

/-- The scale of row `r` of the query weights. -/
def scale (r : Fin 1536) : EReal := if r.val < 1024 then Ideal.ofBits FTy.f32 0x3E38AA3B#32 else Ideal.ofBits FTy.f32 0x3E000000#32

/-- The query weights at an index. -/
theorem wqT_at (W : FVec Ideal S1024x8776 .f32) (r : Fin 1536) (k : Fin 1024) : wqT W (ix2 r k) = W (ix2 k (colQ r)) * scale r := by
  pointwise [wqT, scaleT]
  unfold colQ scale
  by_cases h1 : r.val < 512
  · simp only [dif_pos h1, if_pos (show r.val < 1024 by omega)]
  · by_cases h2 : r.val < 1024
    · simp only [dif_neg h1, dif_pos (show r.val - 512 < 512 by omega), dif_pos h2, if_pos h2]
    · simp only [dif_neg h1, dif_neg (show ¬ r.val - 512 < 512 by omega), dif_neg h2, if_neg h2]
      exact congrArg (fun z => W (ix2 k z) * Ideal.ofBits FTy.f32 0x3E000000#32) (Fin.ext (by dsimp only; omega))

/-- The value weights at an index. -/
theorem wvT_at (W : FVec Ideal S1024x8776 .f32) (r k : Fin 1024) :
    wvT W (ix2 r k) = W (ix2 k ⟨if r.val < 512 then 1024 + r.val else 3072 + (r.val - 512), by split <;> omega⟩) := by
  pointwise [wvT]
  blk_point []
  all_goals split_ifs <;> omega

/-- The padded head weights at an index. -/
theorem wiT_at (W : FVec Ideal S1024x8776 .f32) (r : Fin 16) (k : Fin 1024) :
    wiT W (ix2 r k) = if h : r.val < 8 then W (ix2 k ⟨4672 + r.val, by omega⟩) else 0 := by
  pointwise [wiT]
  by_cases h : r.val < 8
  · simp only [dif_pos h]
  · simp only [dif_neg h]
    show (((0#32 : BitVec 32).toInt : ℝ) : EReal) = 0
    simp

/-- The gather at an index: the operand's row at the picked column. -/
theorem gather_at {α : Type} (x : S8192x8.Idx → α) (idx : IVec S128x1 32) (s : Fin 8192) (l : Fin 128) :
    Host.gather gather_S8192x8_S128x1_S8192x128_0_1_n_n_1_1_81921 x idx (ix2 s l) = x (ix2 s ⟨min (idx (ix2 l 0)).toInt.toNat 7, by omega⟩) := by
  unfold Host.gather
  congr 1
  funext a
  refine Fin.ext ?_
  show (gather_S8192x8_S128x1_S8192x128_0_1_n_n_1_1_81921).start (ix2 s l) idx a + (gather_S8192x8_S128x1_S8192x128_0_1_n_n_1_1_81921).batchCoord (ix2 s l) a
    + (gather_S8192x8_S128x1_S8192x128_0_1_n_n_1_1_81921).offCoord (ix2 s l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide)]
    simp only [Nat.zero_add]
    rfl
  · rw [GatherDims.offCoord_eq_zero _ _ _ (fun h => ((GatherDims.mem_sKept _ _).mp h).1 (List.mem_singleton.mpr rfl))]
    unfold GatherDims.start
    rw [dif_pos (by decide)]
    simp only [Nat.add_zero]
    refine congrArg (fun j => min (idx j).toInt.toNat 7) ?_
    funext b; refine Fin.ext ?_
    match b with
    | ⟨0, _⟩ => rfl
    | ⟨1, _⟩ => rfl
/-- The literal words, column by column: which angle is picked, and the three masks. -/
theorem lits : ∀ l : Fin 128, (lit3 l).toInt.toNat = l.val % 64 % 8 ∧ (lit2 l = if l.val % 64 < 16 then 1#1 else 0#1) ∧ (lit0 l = if l.val % 64 < 8 then 1#1 else 0#1)
    ∧ (lit1 l = if l.val % 64 < 8 then 0#1 else if l.val % 64 < 16 then 1#1 else 0#1) := by decide +kernel

/-- A rank-one index is its own position. -/
theorem flat1 (l : Fin 128) : S128.rowMajor (ix1 l) = l :=
  Fin.ext ((by decide +kernel : ∀ l : Fin 128, (S128.rowMajor (ix1 l)).val = l.val) l)

/-- The picked angle at a column. -/
theorem pick_at (l : Fin 128) : pickI (ix2 l 0) = lit3 l := by
  pointwise [pickI]
  exact congrArg lit3 (flat1 l)

/-- A spread table at an index. -/
theorem spreadT_at (X : FVec Ideal S8192x8 .f32) (s : Fin 8192) (l : Fin 128) : spreadT X (ix2 s l) = X (ix2 s ⟨l.val % 64 % 8, by omega⟩) := by
  unfold spreadT
  rw [gather_at]
  exact congrArg (fun j => X (ix2 s j)) (Fin.ext (by have := (lits l).1; dsimp only; rw [pick_at]; omega))

/-- A masked table at an index. -/
theorem maskT_at (g : Fin 128 → BitVec 1) (X : FVec Ideal S8192x128 .f32) (z : BitVec 32) (s : Fin 8192) (l : Fin 128) :
    maskT g X z (ix2 s l) = if g l = 1#1 then X (ix2 s l) else Ideal.ofBits FTy.f32 z := by
  pointwise [maskT]
  refine (congrArg (fun w => Scalar.select (g w) (X (ix2 s l)) (Ideal.ofBits FTy.f32 z)) (flat1 l)).trans ?_
  rfl

/-- The keys' table of cosines: an angle's cosine on each head's first sixteen features, one elsewhere. -/
theorem cos_at (c : Dev nD) (s : Fin 8192) (l : Fin 128) :
    V m c main_v21 (ix2 s l) = if l.val % 64 < 16 then Ideal.cos (ang (ix2 s ⟨l.val % 64 % 8, by omega⟩)) else 1 := by
  rw [(tables m c).1, maskT_at, spreadT_at, (lits l).2.1]
  by_cases h : l.val % 64 < 16
  · simp only [if_pos h]; rfl
  · simp only [if_neg h]; exact Ideal.ofBits_one_f32

/-- The keys' first table of sines: minus an angle's sine on each head's first eight features. -/
theorem neg_sin_at (c : Dev nD) (s : Fin 8192) (l : Fin 128) :
    V m c main_v29 (ix2 s l) = if l.val % 64 < 8 then -Ideal.sin (ang (ix2 s ⟨l.val % 64 % 8, by omega⟩)) else 0 := by
  rw [(tables m c).2.1, maskT_at, (lits l).2.2.1]
  by_cases h : l.val % 64 < 8
  · simp only [if_pos h]
    pointwise [spreadT_at]
  · simp only [if_neg h]; exact Ideal.ofBits_zero_f32

/-- The keys' second table of sines: an angle's sine on each head's next eight features. -/
theorem sin_at (c : Dev nD) (s : Fin 8192) (l : Fin 128) :
    V m c main_v36 (ix2 s l) = if l.val % 64 < 8 then 0 else if l.val % 64 < 16 then Ideal.sin (ang (ix2 s ⟨l.val % 64 % 8, by omega⟩)) else 0 := by
  rw [(tables m c).2.2.1, maskT_at, spreadT_at, (lits l).2.2.2]
  by_cases h : l.val % 64 < 8
  · simp only [if_pos h]; exact Ideal.ofBits_zero_f32
  · by_cases h' : l.val % 64 < 16
    · simp only [if_neg h, if_pos h']; rfl
    · simp only [if_neg h, if_neg h']; exact Ideal.ofBits_zero_f32

/-- The queries' tables: the angles' cosines and sines, one column per position. -/
theorem cosT_at (c : Dev nD) (f : Fin 8) (s : Fin 8192) : V m c main_v37 (ix2 f s) = Ideal.cos (ang (ix2 s f)) := by
  rw [(tables m c).2.2.2.1]
  pointwise

/-- The queries' table of sines at an index. -/
theorem sinT_at (c : Dev nD) (f : Fin 8) (s : Fin 8192) : V m c main_v38 (ix2 f s) = Ideal.sin (ang (ix2 s f)) := by
  rw [(tables m c).2.2.2.2]
  pointwise

end Cert.InProjIdeal.Host0

end
-- ==== Proof.InWindows.lean ====
/- What each operand of the input projections' call holds at a grid point. -/
module

public import Idealize.ShloMosaic.Lib.Pipeline.ValueKit
public import Idealize.ShloMosaic.Lib.Pointwise
public import Idealize.ShloMosaic.Lib.IdealHost
public import proofs.«01_k».proof.Proof.InHost
@[expose] public section

set_option maxRecDepth 16384
noncomputable section
open Idealize.ShloMosaic Idealize.ShloMosaic.TcCoe Idealize.SL.Sem

namespace Cert.InProjIdeal.Final
open Cert.InProjIdeal Cert.InProjIdeal.Gen
open Cert.InProjRefIdeal.Stage (rope prj col kT qT vT iwT flatT projT)
variable (m : (ℓ : Loc nD τ sig) → Buf (Elt Ideal) ℓ)

/-- The layer's input. -/
abbrev inp (c : Dev nD) : FVec Ideal S16384x1024 .bf16 := m ((c : Thread nD τ).loc main_arg0)

/-- The layer's input weights. -/
abbrev wts (c : Dev nD) : FVec Ideal S1024x8776 .f32 := m ((c : Thread nD τ).loc main_arg1)

/-- The cosines of a position. -/
abbrev cs (s : Fin 8192) (f : Fin 8) : EReal := Ideal.cos (Host0.ang (ix2 s f))

/-- The sines of a position. -/
abbrev sn (s : Fin 8192) (f : Fin 8) : EReal := Ideal.sin (Host0.ang (ix2 s f))

/-- Which block each window stages at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 8, 0] ∧ win0_6.index t = ![t.val % 8, 0]
    ∧ win0_7.index t = ![t.val % 8, 0] ∧ win0_8.index t = ![0, t.val % 8] ∧ win0_9.index t = ![0, t.val % 8] ∧ win0_10.index t = ![t.val, 0]
    ∧ win0_11.index t = ![0, t.val] ∧ win0_12.index t = ![0, t.val] ∧ win0_13.index t = ![0, t.val] ∧ t.val < 16 :=
  (by decide +kernel : ∀ t : Fin grid0.N, _)

/-- There are sixteen grid points. -/
theorem lt (t : Fin cfg0.N) : t.val < 16 := (idx t).2.2.2.2.2.2.2.2.2.2.2.2.2.2

/-- The token at row `r` of grid point `t`. -/
def tok (t : Fin cfg0.N) (r : Fin 1024) : Fin 16384 := ⟨t.val * 1024 + r.val, by have := lt t; omega⟩

/-- Its position in its batch entry. -/
def pos (t : Fin cfg0.N) (r : Fin 1024) : Fin 8192 := ⟨t.val % 8 * 1024 + r.val, by omega⟩

/-- A token's position is its number in its batch entry. -/
theorem pos_eq (t : Fin cfg0.N) (r : Fin 1024) : (⟨(tok t r).val % 8192, by omega⟩ : Fin 8192) = pos t r := by
  have := lt t
  refine Fin.ext ?_
  dsimp only [tok, pos]
  omega

/-- The input's block at an entry. -/
theorem w0 (c : Dev nD) (t : Fin cfg0.N) (r k : Fin 1024) : iblk m c 0 t (ix2 r k) = inp m c (ix2 (tok t r) k) := by
  unfold tok
  blk_ext [iblk, V, idx t]

/-- The key weights' block at an entry. -/
theorem w1 (c : Dev nD) (t : Fin cfg0.N) (k : Fin 1024) (q : Fin 1152) : iblk m c 1 t (ix2 k q) = wts m c (ix2 k (Host0.colK q)) := by
  refine Eq.trans ?_ ((congrFun (Host0.operands m c).1 (ix2 k q)).trans (Host0.wkT_at _ k q))
  blk_ext [iblk, idx t]

/-- The query weights' block at an entry. -/
theorem w2 (c : Dev nD) (t : Fin cfg0.N) (r : Fin 1536) (k : Fin 1024) :
    iblk m c 2 t (ix2 r k) = wts m c (ix2 k (Host0.colQ r)) * Host0.scale r := by
  refine Eq.trans ?_ ((congrFun (Host0.operands m c).2.1 (ix2 r k)).trans (Host0.wqT_at _ r k))
  blk_ext [iblk, idx t]

/-- The value weights' block at an entry. -/
theorem w3 (c : Dev nD) (t : Fin cfg0.N) (r k : Fin 1024) :
    iblk m c 3 t (ix2 r k) = wts m c (ix2 k ⟨if r.val < 512 then 1024 + r.val else 3072 + (r.val - 512), by split <;> omega⟩) := by
  refine Eq.trans ?_ ((congrFun (Host0.operands m c).2.2.1 (ix2 r k)).trans (Host0.wvT_at _ r k))
  blk_ext [iblk, idx t]

/-- The head weights' block at an entry. -/
theorem w4 (c : Dev nD) (t : Fin cfg0.N) (r : Fin 16) (k : Fin 1024) :
    iblk m c 4 t (ix2 r k) = (if h : r.val < 8 then wts m c (ix2 k ⟨4672 + r.val, by omega⟩) else 0 : EReal) := by
  refine Eq.trans ?_ ((congrFun (Host0.operands m c).2.2.2 (ix2 r k)).trans (Host0.wiT_at _ r k))
  blk_ext [iblk, idx t]

/-- The keys' cosines at an entry. -/
theorem w5 (c : Dev nD) (t : Fin cfg0.N) (r : Fin 1024) (l : Fin 128) :
    iblk m c 5 t (ix2 r l) = (if l.val % 64 < 16 then cs (pos t r) ⟨l.val % 64 % 8, by omega⟩ else 1 : EReal) := by
  refine Eq.trans ?_ (Host0.cos_at m c (pos t r) l)
  unfold pos
  blk_ext [iblk, idx t]

/-- The keys' first sines at an entry. -/
theorem w6 (c : Dev nD) (t : Fin cfg0.N) (r : Fin 1024) (l : Fin 128) :
    iblk m c 6 t (ix2 r l) = (if l.val % 64 < 8 then -sn (pos t r) ⟨l.val % 64 % 8, by omega⟩ else 0 : EReal) := by
  refine Eq.trans ?_ (Host0.neg_sin_at m c (pos t r) l)
  unfold pos
  blk_ext [iblk, idx t]

/-- The keys' second sines at an entry. -/
theorem w7 (c : Dev nD) (t : Fin cfg0.N) (r : Fin 1024) (l : Fin 128) :
    iblk m c 7 t (ix2 r l) = (if l.val % 64 < 8 then 0 else if l.val % 64 < 16 then sn (pos t r) ⟨l.val % 64 % 8, by omega⟩ else 0 : EReal) := by
  refine Eq.trans ?_ (Host0.sin_at m c (pos t r) l)
  unfold pos
  blk_ext [iblk, idx t]

/-- The queries' cosines at an entry. -/
theorem w8 (c : Dev nD) (t : Fin cfg0.N) (f : Fin 8) (r : Fin 1024) : iblk m c 8 t (ix2 f r) = cs (pos t r) f := by
  refine Eq.trans ?_ (Host0.cosT_at m c f (pos t r))
  unfold pos
  blk_ext [iblk, idx t]

/-- The queries' sines at an entry. -/
theorem w9 (c : Dev nD) (t : Fin cfg0.N) (f : Fin 8) (r : Fin 1024) : iblk m c 9 t (ix2 f r) = sn (pos t r) f := by
  refine Eq.trans ?_ (Host0.sinT_at m c f (pos t r))
  unfold pos
  blk_ext [iblk, idx t]

end Cert.InProjIdeal.Final

end
-- ==== Proof.InPointKeys.lean ====
/- The keys the kernel writes at a grid point are the reference's. -/
module

public import Idealize.ShloMosaic.Lib.Pipeline.ValueKit
public import Idealize.ShloMosaic.Lib.Pointwise
public import Idealize.ShloMosaic.Lib.IdealHost
public import proofs.«01_k».proof.Proof.InKeys
public import proofs.«01_k».proof.Proof.InWindows
@[expose] public section

set_option maxRecDepth 16384
noncomputable section
open Idealize.ShloMosaic Idealize.ShloMosaic.TcCoe Idealize.SL.Sem

namespace Cert.InProjIdeal.Final
open Cert.InProjIdeal Cert.InProjIdeal.Gen
open Cert.InProjRefIdeal.Stage (rope prj col kT qT vT iwT flatT projT)
variable (m : (ℓ : Loc nD τ sig) → Buf (Elt Ideal) ℓ)

/-- The keys' three products, each by its table, add up to the rotation. -/
theorem rope_sum (y : Fin 64 → EReal) (u v : Fin 8 → EReal) (e : Fin 64) (a b : EReal) (ha : ∀ h : e.val < 8, a = y ⟨e.val + 8, by omega⟩)
    (hb : ∀ h : ¬ e.val < 8, e.val < 16 → b = y ⟨e.val - 8, by omega⟩) :
    y e * (if e.val < 16 then u ⟨e.val % 8, by omega⟩ else 1) + a * (if e.val < 8 then -v ⟨e.val % 8, by omega⟩ else 0)
      + b * (if e.val < 8 then 0 else if e.val < 16 then v ⟨e.val % 8, by omega⟩ else 0) = rope y u v e := by
  unfold rope
  by_cases h : e.val < 8
  · have he : (⟨e.val % 8, by omega⟩ : Fin 8) = ⟨e.val, h⟩ := Fin.ext (Nat.mod_eq_of_lt h)
    rw [dif_pos h, if_pos (by omega), if_pos h, if_pos h, ha h, he, mul_zero, add_zero, mul_neg, sub_eq_add_neg]
  · by_cases h' : e.val < 16
    · have h8 : e.val - 8 < 8 := by omega
      have he : (⟨e.val % 8, by omega⟩ : Fin 8) = ⟨e.val - 8, h8⟩ := Fin.ext (by dsimp only; omega)
      rw [dif_neg h, dif_pos h8, if_pos h', if_neg h, if_neg h, if_pos h', hb h h', he, mul_zero, add_zero]
    · rw [dif_neg h, dif_neg (by omega), if_neg h', if_neg h, if_neg h, if_neg h', mul_one, mul_zero, mul_zero, add_zero, add_zero]

/-- The keys' projection at a point. -/
theorem keys_at (c : Dev nD) (t : Fin cfg0.N) (r : Fin 1024) (q : Fin 1152) :
    k0_pay3 (F := Ideal) (iblk m c 0 t) (iblk m c 1 t) (ix2 r q) = prj (inp m c) (wts m c) (tok t r) (Host0.colK q) := by
  refine (Block.k3_at _ _ r q).trans ?_
  simp only [w0, w1]
  rfl

/-- A key column's place among the rotated projections. -/
def slot (q : Fin 1152) : Fin 2624 := ⟨if q.val < 1088 then q.val else q.val - 64, by split <;> omega⟩

/-- A key column's column among the rotated projections, by head and feature. -/
theorem colK_eq (q : Fin 1152) (e : Fin 64) :
    Host0.colK ⟨q.val / 64 * 64 + e.val, by omega⟩ = col ⟨(slot q).val / 64 * 64 + e.val, by have := (slot q).isLt; omega⟩ := by
  unfold Host0.colK col slot
  dsimp only
  refine Fin.ext ?_
  split_ifs <;> dsimp only <;> omega

/-- What the kernel writes of the keys. -/
theorem point_k (c : Dev nD) (t : Fin cfg0.N) (r : Fin 1024) (q : Fin 1152) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r q)
      = kT (flatT (inp m c) (wts m c)) (ix2 (tok t r) q) := by
  refine (Block.out_k _ _ _ _ _ _ _ _ _ _ (ix2 r q) r q rfl rfl).trans ?_
  rw [Cert.InProjRefIdeal.Stage.kT_at, Cert.InProjRefIdeal.Stage.flatT_at]
  unfold Block.roped
  simp only [w5, w6, w7, keys_at, pos_eq]
  have hs : (slot q).val % 64 = q.val % 64 := by unfold slot; dsimp only; split <;> omega
  have hq : q.val % 128 % 64 = q.val % 64 := by omega
  have hy := fun e => congrArg (prj (inp m c) (wts m c) (tok t r)) (colK_eq q e)
  refine Eq.trans ?_ ((rope_sum (fun e => prj (inp m c) (wts m c) (tok t r) (Host0.colK ⟨q.val / 64 * 64 + e.val, by omega⟩)) (cs (pos t r)) (sn (pos t r)) ⟨q.val % 64, by omega⟩
    (prj (inp m c) (wts m c) (tok t r) (Host0.colK ⟨q.val / 128 * 128 + (q.val % 128 + 128 - 120) % 128, by omega⟩))
    (prj (inp m c) (wts m c) (tok t r) (Host0.colK ⟨q.val / 128 * 128 + (q.val % 128 + 128 - 8) % 128, by omega⟩)) ?_ ?_).trans ?_)
  · dsimp only
    simp only [hq]
    rw [show (⟨q.val / 64 * 64 + q.val % 64, by omega⟩ : Fin 1152) = q from Fin.ext (by dsimp only; omega)]
  · intro h
    dsimp only at h ⊢
    exact congrArg (fun z => prj (inp m c) (wts m c) (tok t r) (Host0.colK z)) (Fin.ext (by dsimp only; omega))
  · intro h h'
    dsimp only at h h' ⊢
    exact congrArg (fun z => prj (inp m c) (wts m c) (tok t r) (Host0.colK z)) (Fin.ext (by dsimp only; omega))
  · simp only [hy]
    exact congrArg (rope _ _ _) (Fin.ext hs.symm)

end Cert.InProjIdeal.Final

end
-- ==== Proof.InQueries.lean ====
/- The input projections' query block: what the kernel writes of the queries at a point, read at an index. -/
module

public import Idealize.ShloMosaic.Lib.Pipeline.ValueKit
public import Idealize.ShloMosaic.Lib.Pointwise
public import Idealize.ShloMosaic.Lib.IdealHost
public import proofs.«01_k».proof.Proof.Gen.InProjIdeal.Frame
@[expose] public section

set_option maxRecDepth 16384
noncomputable section
open Idealize.ShloMosaic Idealize.ShloMosaic.TcCoe Idealize.SL.Sem

namespace Cert.InProjIdeal.Block
open Cert.InProjIdeal Cert.InProjIdeal.Gen
/-- One row of the transposed queries. -/
def ropedT (T : FVec Ideal S512x1024 .f32) (c s : FVec Ideal S8x1024 .f32) (r : Fin 512) (q : Fin 1024) : EReal :=
  if h : r.val % 64 < 8 then T (ix2 r q) * c (ix2 ⟨r.val % 64, h⟩ q) - T (ix2 ⟨r.val / 64 * 64 + 8 + r.val % 64, by omega⟩ q) * s (ix2 ⟨r.val % 64, h⟩ q)
  else if h : r.val % 64 - 8 < 8 then T (ix2 r q) * c (ix2 ⟨r.val % 64 - 8, h⟩ q) + T (ix2 ⟨r.val / 64 * 64 + (r.val % 64 - 8), by omega⟩ q) * s (ix2 ⟨r.val % 64 - 8, h⟩ q)
  else T (ix2 r q)

/-- The 24 pieces of one block of eight heads: two rotated pieces and the rest of each head. -/
abbrev pieces (a b : Fin 8 → FVec Ideal S8x1024 .f32) (d : Fin 8 → FVec Ideal S48x1024 .f32) : List ((s : Shape) × (s.Idx → Ideal .f32)) :=
  [⟨S8x1024, a 0⟩, ⟨S8x1024, b 0⟩, ⟨S48x1024, d 0⟩, ⟨S8x1024, a 1⟩, ⟨S8x1024, b 1⟩, ⟨S48x1024, d 1⟩, ⟨S8x1024, a 2⟩, ⟨S8x1024, b 2⟩, ⟨S48x1024, d 2⟩, ⟨S8x1024, a 3⟩, ⟨S8x1024, b 3⟩, ⟨S48x1024, d 3⟩, ⟨S8x1024, a 4⟩, ⟨S8x1024, b 4⟩, ⟨S48x1024, d 4⟩, ⟨S8x1024, a 5⟩, ⟨S8x1024, b 5⟩, ⟨S48x1024, d 5⟩, ⟨S8x1024, a 6⟩, ⟨S8x1024, b 6⟩, ⟨S48x1024, d 6⟩, ⟨S8x1024, a 7⟩, ⟨S8x1024, b 7⟩, ⟨S48x1024, d 7⟩]

/-- The heights of the pieces. -/
theorem heights (a b : Fin 8 → FVec Ideal S8x1024 .f32) (d : Fin 8 → FVec Ideal S48x1024 .f32) (k : Nat) :
    (((pieces a b d).take k).map (·.1)).map (fun s => if h : s.rank = S512x1024.rank then s.size ((0 : Fin S512x1024.rank).cast h.symm) else 0)
      = [8, 8, 48, 8, 8, 48, 8, 8, 48, 8, 8, 48, 8, 8, 48, 8, 8, 48, 8, 8, 48, 8, 8, 48].take k := by
  rw [List.map_take, List.map_take]
  rfl

/-- The pieces' heights before piece `k`. -/
theorem before : ∀ n : Fin 8, ([8, 8, 48, 8, 8, 48, 8, 8, 48, 8, 8, 48, 8, 8, 48, 8, 8, 48, 8, 8, 48, 8, 8, 48].take (3 * n.val)).sum = 64 * n.val
    ∧ ([8, 8, 48, 8, 8, 48, 8, 8, 48, 8, 8, 48, 8, 8, 48, 8, 8, 48, 8, 8, 48, 8, 8, 48].take (3 * n.val + 1)).sum = 64 * n.val + 8
    ∧ ([8, 8, 48, 8, 8, 48, 8, 8, 48, 8, 8, 48, 8, 8, 48, 8, 8, 48, 8, 8, 48, 8, 8, 48].take (3 * n.val + 2)).sum = 64 * n.val + 16 := by decide

/-- Rows of the first kind of piece. -/
theorem at_first (a b : Fin 8 → FVec Ideal S8x1024 .f32) (d : Fin 8 → FVec Ideal S48x1024 .f32) (n : Fin 8) (hn : 3 * n.val < (pieces a b d).length) :
    (pieces a b d)[3 * n.val] = ⟨S8x1024, a n⟩ := by
  match n with
  | 0 | 1 | 2 | 3 | 4 | 5 | 6 | 7 => rfl
/-- Rows of the second kind of piece. -/
theorem at_second (a b : Fin 8 → FVec Ideal S8x1024 .f32) (d : Fin 8 → FVec Ideal S48x1024 .f32) (n : Fin 8) (hn : 3 * n.val + 1 < (pieces a b d).length) :
    (pieces a b d)[3 * n.val + 1] = ⟨S8x1024, b n⟩ := by
  match n with
  | 0 | 1 | 2 | 3 | 4 | 5 | 6 | 7 => rfl
/-- Rows of the third kind of piece. -/
theorem at_third (a b : Fin 8 → FVec Ideal S8x1024 .f32) (d : Fin 8 → FVec Ideal S48x1024 .f32) (n : Fin 8) (hn : 3 * n.val + 2 < (pieces a b d).length) :
    (pieces a b d)[3 * n.val + 2] = ⟨S48x1024, d n⟩ := by
  match n with
  | 0 | 1 | 2 | 3 | 4 | 5 | 6 | 7 => rfl

/-- Off the joined axis an index is unchanged. -/
theorem off_axis {R : Nat} (r : Fin 512) (q : Fin 1024) (z : Fin R) (b : Fin 2) (hb : b ≠ 0) : ((ix2 z q : (⟨2, ![R, 1024]⟩ : Shape).Idx) b).val = ((ix2 r q : S512x1024.Idx) b).val := by
  match b with
  | ⟨0, _⟩ => exact absurd rfl hb
  | ⟨1, _⟩ => rfl

/-- Twenty-four pieces joined, head by head, are the rotated block. -/
theorem cat_rope (T : FVec Ideal S512x1024 .f32) (c s : FVec Ideal S8x1024 .f32) (a b : Fin 8 → FVec Ideal S8x1024 .f32) (d : Fin 8 → FVec Ideal S48x1024 .f32)
    (ha : ∀ (n e : Fin 8) (q : Fin 1024), a n (ix2 e q) = T (ix2 ⟨n.val * 64 + e.val, by omega⟩ q) * c (ix2 e q) - T (ix2 ⟨n.val * 64 + 8 + e.val, by omega⟩ q) * s (ix2 e q))
    (hb : ∀ (n e : Fin 8) (q : Fin 1024), b n (ix2 e q) = T (ix2 ⟨n.val * 64 + 8 + e.val, by omega⟩ q) * c (ix2 e q) + T (ix2 ⟨n.val * 64 + e.val, by omega⟩ q) * s (ix2 e q))
    (hd : ∀ (n : Fin 8) (e : Fin 48) (q : Fin 1024), d n (ix2 e q) = T (ix2 ⟨n.val * 64 + 16 + e.val, by omega⟩ q))
    (h : Shape.Concatenates ((pieces a b d).map (·.1)) S512x1024 0) (r : Fin 512) (q : Fin 1024) :
    concatenate S512x1024 0 (pieces a b d) h (ix2 r q) = ropedT T c s r q := by
  obtain ⟨n, hn⟩ : ∃ n : Fin 8, n.val = r.val / 64 := ⟨⟨r.val / 64, by omega⟩, rfl⟩
  have len : (pieces a b d).length = 24 := rfl
  unfold ropedT
  split
  · rename_i h1
    refine (concatenate_apply_piece 0 (pieces a b d) h (ix2 r q) (3 * n.val) (by rw [len]; omega) S8x1024 (a n) (at_first a b d n _) rfl (64 * n.val)
      (by rw [heights]; exact (before n).1) (ix2 ⟨r.val % 64, h1⟩ q) (off_axis r q _) (by show 64 * n.val + r.val % 64 = r.val; omega)).trans ?_
    rw [ha]
    have e1 : (⟨n.val * 64 + r.val % 64, by omega⟩ : Fin 512) = r := Fin.ext (by show n.val * 64 + r.val % 64 = r.val; omega)
    simp only [hn] at e1 ⊢
    rw [e1]
  split
  · rename_i h0 h1
    refine (concatenate_apply_piece 0 (pieces a b d) h (ix2 r q) (3 * n.val + 1) (by rw [len]; omega) S8x1024 (b n) (at_second a b d n _) rfl (64 * n.val + 8)
      (by rw [heights]; exact (before n).2.1) (ix2 ⟨r.val % 64 - 8, h1⟩ q) (off_axis r q _) (by show 64 * n.val + 8 + (r.val % 64 - 8) = r.val; omega)).trans ?_
    rw [hb]
    have e1 : (⟨n.val * 64 + 8 + (r.val % 64 - 8), by omega⟩ : Fin 512) = r := Fin.ext (by show n.val * 64 + 8 + (r.val % 64 - 8) = r.val; omega)
    simp only [hn] at e1 ⊢
    rw [e1]
  · rename_i h0 h1
    refine (concatenate_apply_piece 0 (pieces a b d) h (ix2 r q) (3 * n.val + 2) (by rw [len]; omega) S48x1024 (d n) (at_third a b d n _) rfl (64 * n.val + 16)
      (by rw [heights]; exact (before n).2.2) (ix2 ⟨r.val % 64 - 16, by omega⟩ q) (off_axis r q _) (by show 64 * n.val + 16 + (r.val % 64 - 16) = r.val; omega)).trans ?_
    rw [hd]
    exact congrArg (fun z => T (ix2 z q)) (Fin.ext (by show n.val * 64 + 16 + (r.val % 64 - 16) = r.val; omega))

/-- The same with the pieces given one by one, so that it applies to a printed concatenation. -/
theorem cat_rope_list (T : FVec Ideal S512x1024 .f32) (c s a0 a1 a2 a3 a4 a5 a6 a7 b0 b1 b2 b3 b4 b5 b6 b7 : FVec Ideal S8x1024 .f32) (d0 d1 d2 d3 d4 d5 d6 d7 : FVec Ideal S48x1024 .f32) (h) (r : Fin 512) (q : Fin 1024)
    (ha : ∀ (n e : Fin 8) (q : Fin 1024), (![a0, a1, a2, a3, a4, a5, a6, a7] : Fin 8 → FVec Ideal S8x1024 .f32) n (ix2 e q) = T (ix2 ⟨n.val * 64 + e.val, by omega⟩ q) * c (ix2 e q) - T (ix2 ⟨n.val * 64 + 8 + e.val, by omega⟩ q) * s (ix2 e q))
    (hb : ∀ (n e : Fin 8) (q : Fin 1024), (![b0, b1, b2, b3, b4, b5, b6, b7] : Fin 8 → FVec Ideal S8x1024 .f32) n (ix2 e q) = T (ix2 ⟨n.val * 64 + 8 + e.val, by omega⟩ q) * c (ix2 e q) + T (ix2 ⟨n.val * 64 + e.val, by omega⟩ q) * s (ix2 e q))
    (hd : ∀ (n : Fin 8) (e : Fin 48) (q : Fin 1024), (![d0, d1, d2, d3, d4, d5, d6, d7] : Fin 8 → FVec Ideal S48x1024 .f32) n (ix2 e q) = T (ix2 ⟨n.val * 64 + 16 + e.val, by omega⟩ q)) :
    concatenate S512x1024 0 [⟨S8x1024, a0⟩, ⟨S8x1024, b0⟩, ⟨S48x1024, d0⟩, ⟨S8x1024, a1⟩, ⟨S8x1024, b1⟩, ⟨S48x1024, d1⟩, ⟨S8x1024, a2⟩, ⟨S8x1024, b2⟩, ⟨S48x1024, d2⟩, ⟨S8x1024, a3⟩, ⟨S8x1024, b3⟩, ⟨S48x1024, d3⟩, ⟨S8x1024, a4⟩, ⟨S8x1024, b4⟩, ⟨S48x1024, d4⟩, ⟨S8x1024, a5⟩, ⟨S8x1024, b5⟩, ⟨S48x1024, d5⟩, ⟨S8x1024, a6⟩, ⟨S8x1024, b6⟩, ⟨S48x1024, d6⟩, ⟨S8x1024, a7⟩, ⟨S8x1024, b7⟩, ⟨S48x1024, d7⟩] h (ix2 r q) = ropedT T c s r q :=
  cat_rope T c s ![a0, a1, a2, a3, a4, a5, a6, a7] ![b0, b1, b2, b3, b4, b5, b6, b7] ![d0, d1, d2, d3, d4, d5, d6, d7] ha hb hd h r q

/-- The transposed queries one grid step stores: each block of 512 rows is eight heads, rotated within each head. -/
theorem out_q (x0 : FVec Ideal S1024x1024 .bf16) (x1 : FVec Ideal S1024x1152 .bf16) (x2 : FVec Ideal S1536x1024 .bf16) (x3 : FVec Ideal S1024x1024 .bf16) (x4 : FVec Ideal S16x1024 .bf16) (x5 x6 x7 : FVec Ideal S1024x128 .f32) (x8 x9 : FVec Ideal S8x1024 .f32) (y : S1536x1024.Idx) (r : Fin 1536) (q : Fin 1024)
    (hr : (y 0).val = r.val) (hq : (y 1).val = q.val) :
    out0_11 (F := Ideal) x0 x1 x2 x3 x4 x5 x6 x7 x8 x9 y
      = ropedT (fun i => ∑ k : Fin 1024, x2 (ix2 ⟨r.val / 512 * 512 + (i 0).val, by have := r.isLt; have := (i 0).isLt; change _ < 512 at this; omega⟩ k) * x0 (ix2 (i 1) k)) x8 x9 ⟨r.val % 512, by omega⟩ q := by
  unfold_out out0_11
  canon_tiles x h
  all_goals
    obtain ⟨a, b, rfl⟩ : ∃ (a : Fin 512) (b : Fin 1024), x = ix2 a b := ⟨x 0, x 1, by blk_ext⟩
    obtain rfl : b = q := Fin.ext (h1.symm.trans hq)
  case piece0 =>
    replace h0 : (y 0).val = 1024 + a.val := h0
    dsimp only [k0_pay106]
    refine (cat_rope_list (k0_pay92 (View.ld x0 r0_0) (View.ld x2 r0_15)) x8 x9 _ _ _ _ _ _ _ _ _ _ _ _ _ _ _ _ _ _ _ _ _ _ _ _  concatenates_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S512x1024_d0 a b ?_ ?_ ?_).trans ?_
    rotate_right
    · rw [show a = (⟨r.val % 512, by omega⟩ : Fin 512) from Fin.ext (by dsimp only; omega)]
      refine congrArg (fun T => ropedT T x8 x9 _ b) (funext fun i => ?_)
      obtain ⟨u, v, rfl⟩ : ∃ (u : Fin 512) (v : Fin 1024), i = ix2 u v := ⟨i 0, i 1, by blk_ext⟩
      pointwise [k0_pay92]
      refine Finset.sum_congr rfl fun k _ => congrArg₂ (· * ·) (congrArg x2 ?_) ?_
      · blk_ext
      · blk_ext
    all_goals
      intro n e q
      match n with
      | 0 | 1 | 2 | 3 | 4 | 5 | 6 | 7 => pointwise [k0_pay22, k0_pay23, k0_pay93, k0_pay94, k0_pay95, k0_pay96, k0_pay97, k0_pay98, k0_pay99, k0_pay100, k0_pay101, k0_pay102, k0_pay103, k0_pay104, k0_pay105]
  case piece1 =>
    replace h0 : (y 0).val = 512 + a.val := h0
    dsimp only [k0_pay91]
    refine (cat_rope_list (k0_pay65 (View.ld x0 r0_0) (View.ld x2 r0_14)) x8 x9 _ _ _ _ _ _ _ _ _ _ _ _ _ _ _ _ _ _ _ _ _ _ _ _  concatenates_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S512x1024_d0 a b ?_ ?_ ?_).trans ?_
    rotate_right
    · rw [show a = (⟨r.val % 512, by omega⟩ : Fin 512) from Fin.ext (by dsimp only; omega)]
      refine congrArg (fun T => ropedT T x8 x9 _ b) (funext fun i => ?_)
      obtain ⟨u, v, rfl⟩ : ∃ (u : Fin 512) (v : Fin 1024), i = ix2 u v := ⟨i 0, i 1, by blk_ext⟩
      pointwise [k0_pay65]
      refine Finset.sum_congr rfl fun k _ => congrArg₂ (· * ·) (congrArg x2 ?_) ?_
      · blk_ext
      · blk_ext
    all_goals
      intro n e q
      match n with
      | 0 | 1 | 2 | 3 | 4 | 5 | 6 | 7 => pointwise [k0_pay22, k0_pay23, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90]
  case piece2 =>
    replace h0 : (y 0).val = a.val := h0
    dsimp only [k0_pay64]
    refine (cat_rope_list (k0_pay24 (View.ld x0 r0_0) (View.ld x2 r0_13)) x8 x9 _ _ _ _ _ _ _ _ _ _ _ _ _ _ _ _ _ _ _ _ _ _ _ _  concatenates_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S8x1024_S8x1024_S48x1024_S512x1024_d0 a b ?_ ?_ ?_).trans ?_
    rotate_right
    · rw [show a = (⟨r.val % 512, by omega⟩ : Fin 512) from Fin.ext (by dsimp only; omega)]
      refine congrArg (fun T => ropedT T x8 x9 _ b) (funext fun i => ?_)
      obtain ⟨u, v, rfl⟩ : ∃ (u : Fin 512) (v : Fin 1024), i = ix2 u v := ⟨i 0, i 1, by blk_ext⟩
      pointwise [k0_pay24]
      refine Finset.sum_congr rfl fun k _ => congrArg₂ (· * ·) (congrArg x2 ?_) ?_
      · blk_ext
      · blk_ext
    all_goals
      intro n e q
      match n with
      | 0 | 1 | 2 | 3 | 4 | 5 | 6 | 7 => pointwise [k0_pay22, k0_pay23, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]

end Cert.InProjIdeal.Block

end
-- ==== Proof.InPointQueries.lean ====
/- The queries the kernel writes at a grid point are the reference's. -/
module

public import Idealize.ShloMosaic.Lib.Pipeline.ValueKit
public import Idealize.ShloMosaic.Lib.Pointwise
public import Idealize.ShloMosaic.Lib.IdealHost
public import proofs.«01_k».proof.Proof.InQueries
public import proofs.«01_k».proof.Proof.InWindows
@[expose] public section

set_option maxRecDepth 16384
noncomputable section
open Idealize.ShloMosaic Idealize.ShloMosaic.TcCoe Idealize.SL.Sem

namespace Cert.InProjIdeal.Final
open Cert.InProjIdeal Cert.InProjIdeal.Gen
open Cert.InProjRefIdeal.Stage (rope prj col kT qT vT iwT flatT projT)
variable (m : (ℓ : Loc nD τ sig) → Buf (Elt Ideal) ℓ)

/-- A product's sum over a scaled weight is the scaled sum. -/
theorem sum_scaled {s : EReal} (h0 : 0 ≤ s) (ht : s ≠ ⊤) (H : FVec Ideal S16384x1024 .bf16) (W : FVec Ideal S1024x8776 .f32) (i : Fin 16384) (w : Fin 8776) :
    (∑ k : Fin 1024, (W (ix2 k w) * s) * H (ix2 i k) : EReal) = prj H W i w * s := by
  unfold prj
  have hs : ∀ f : Fin 1024 → EReal, (∑ k, f k) * s = ∑ k, f k * s := fun f =>
    map_sum (⟨⟨(· * s), zero_mul s⟩, fun a b => EReal.right_distrib_of_nonneg_of_ne_top h0 ht a b⟩ : EReal →+ EReal) f Finset.univ
  refine Eq.trans ?_ (hs _).symm
  exact Finset.sum_congr rfl fun k _ => by rw [mul_comm, ← mul_assoc]

/-- A rotation of scaled features is the scaled rotation. -/
theorem rope_scaled {s : EReal} (h0 : 0 ≤ s) (ht : s ≠ ⊤) (y : Fin 64 → EReal) (u v : Fin 8 → EReal) (e : Fin 64) :
    rope (fun e => y e * s) u v e = rope y u v e * s := by
  unfold rope
  split_ifs
  · rw [sub_eq_add_neg, sub_eq_add_neg, EReal.right_distrib_of_nonneg_of_ne_top h0 ht, neg_mul, mul_right_comm, mul_right_comm (y _) s]
  · rw [EReal.right_distrib_of_nonneg_of_ne_top h0 ht, mul_right_comm, mul_right_comm (y _) s]
  · rfl

/-- The scales are not negative. -/
theorem scale_nonneg (r : Fin 1536) : 0 ≤ Host0.scale r := by
  unfold Host0.scale
  split_ifs <;> simp [Ideal.ofBits, Ideal.ieee] <;> positivity

/-- The scales are finite. -/
theorem scale_ne_top (r : Fin 1536) : Host0.scale r ≠ ⊤ := by
  unfold Host0.scale
  split_ifs <;> simp [Ideal.ofBits, Ideal.ieee, -EReal.coe_mul]

/-- A head's features are rotated as the plain rotation says, whatever the block they lie in. -/
theorem ropedT_eq (T : FVec Ideal S512x1024 .f32) (c s : FVec Ideal S8x1024 .f32) (r : Fin 512) (q : Fin 1024) (y : Fin 64 → EReal) (u v : Fin 8 → EReal) (e : Fin 64)
    (he : r.val % 64 = e.val) (hT : ∀ f : Fin 64, T (ix2 ⟨r.val / 64 * 64 + f.val, by omega⟩ q) = y f) (hc : ∀ f, c (ix2 f q) = u f) (hs : ∀ f, s (ix2 f q) = v f) :
    Block.ropedT T c s r q = rope y u v e := by
  have hr : ∀ (a : Fin 512) (f : Fin 64), a.val = r.val / 64 * 64 + f.val → T (ix2 a q) = y f := fun a f h => (congrArg (fun z => T (ix2 z q)) (Fin.ext h)).trans (hT f)
  unfold Block.ropedT rope
  by_cases h : r.val % 64 < 8
  · rw [dif_pos h, dif_pos (show e.val < 8 by omega), hr r e (by omega), hr _ ⟨e.val + 8, by omega⟩ (by dsimp only; omega), hc, hs]
    simp only [he]
  · by_cases h' : r.val % 64 - 8 < 8
    · rw [dif_neg h, dif_pos h', dif_neg (show ¬ e.val < 8 by omega), dif_pos (show e.val - 8 < 8 by omega), hr r e (by omega), hr _ ⟨e.val - 8, by omega⟩ (by dsimp only; omega), hc, hs]
      simp only [he]
    · rw [dif_neg h, dif_neg h', dif_neg (show ¬ e.val < 8 by omega), dif_neg (show ¬ e.val - 8 < 8 by omega), hr r e (by omega)]

/-- A query row times a token, both read off their arrays. -/
theorem row_scaled {s : EReal} (h0 : 0 ≤ s) (ht : s ≠ ⊤) (x2 : FVec Ideal S1536x1024 .bf16) (x0 : FVec Ideal S1024x1024 .bf16) (R : Fin 1536) (q : Fin 1024)
    (H : FVec Ideal S16384x1024 .bf16) (W : FVec Ideal S1024x8776 .f32) (i : Fin 16384) (w : Fin 8776) (h2 : ∀ k, x2 (ix2 R k) = W (ix2 k w) * s) (hx : ∀ k, x0 (ix2 q k) = H (ix2 i k)) :
    (∑ k : Fin 1024, x2 (ix2 R k) * x0 (ix2 q k) : EReal) = prj H W i w * s := by
  simp only [h2, hx]
  exact sum_scaled h0 ht H W i w

/-- A query row's column among the rotated projections, by head and feature. -/
theorem colQ_eq (r R : Fin 1536) (e : Fin 64) (h : R.val = r.val / 64 * 64 + e.val) : Host0.colQ R = col ⟨(1088 + r.val) / 64 * 64 + e.val, by omega⟩ := by
  unfold Host0.colQ col
  dsimp only
  refine Fin.ext ?_
  split_ifs <;> dsimp only <;> omega

/-- The scale is one over a head's rows. -/
theorem scale_head (r R : Fin 1536) (h : R.val / 64 = r.val / 64) : Host0.scale R = Host0.scale r := by
  unfold Host0.scale
  by_cases h : r.val < 1024
  · rw [if_pos h, if_pos (by omega)]
  · rw [if_neg h, if_neg (by omega)]

/-- What the kernel writes of the queries. -/
theorem point_q (c : Dev nD) (t : Fin cfg0.N) (r : Fin 1536) (q : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r q)
      = qT (flatT (inp m c) (wts m c)) (ix2 r (tok t q)) := by
  refine (Block.out_q _ _ _ _ _ _ _ _ _ _ (ix2 r q) r q rfl rfl).trans ?_
  refine Eq.trans ?_ (Cert.InProjRefIdeal.Stage.qT_at _ _ _).symm
  rw [Cert.InProjRefIdeal.Stage.flatT_at]
  refine (ropedT_eq _ _ _ _ _ (fun e => prj (inp m c) (wts m c) (tok t q) (col ⟨(1088 + r.val) / 64 * 64 + e.val, by omega⟩) * Host0.scale r) (cs (pos t q)) (sn (pos t q)) ⟨r.val % 64, by omega⟩
    (by dsimp only; omega) (fun f => ?_) (fun f => w8 m c t f q) (fun f => w9 m c t f q)).trans ?_
  · refine row_scaled (scale_nonneg r) (scale_ne_top r) (iblk m c 2 t) (iblk m c 0 t) ⟨r.val / 512 * 512 + (r.val % 512 / 64 * 64 + f.val), by omega⟩ q (inp m c) (wts m c) (tok t q) _ (fun k => ?_) (fun k => w0 m c t q k)
    refine (w2 m c t _ k).trans ?_
    rw [colQ_eq r _ f (by dsimp only; omega), scale_head r _ (by dsimp only; omega)]
  · refine (rope_scaled (scale_nonneg r) (scale_ne_top r) _ _ _ _).trans ?_
    refine congrArg₂ (fun a b : EReal => a * b) ?_ ?_
    · simp only [pos_eq]
      exact congrArg (rope _ _ _) (Fin.ext (by dsimp only; omega))
    · unfold Host0.scale
      split_ifs <;> rfl

end Cert.InProjIdeal.Final

end
-- ==== Proof.InFinal.lean ====
/- The four result arrays of the input projections after the run are the reference results over the arguments. -/
module

public import Idealize.ShloMosaic.Lib.Pipeline.ValueKit
public import Idealize.ShloMosaic.Lib.Pointwise
public import Idealize.ShloMosaic.Lib.IdealHost
public import proofs.«01_k».proof.Proof.InPointKeys
public import proofs.«01_k».proof.Proof.InPointQueries
@[expose] public section

set_option maxRecDepth 16384
noncomputable section
open Idealize.ShloMosaic Idealize.ShloMosaic.TcCoe Idealize.SL.Sem

namespace Cert.InProjIdeal.Final
open Cert.InProjIdeal Cert.InProjIdeal.Gen
open Cert.InProjRefIdeal.Stage (rope prj col kT qT vT iwT flatT projT)
variable (m : (ℓ : Loc nD τ sig) → Buf (Elt Ideal) ℓ)

/-- What the kernel writes of the values. -/
theorem point_v (c : Dev nD) (t : Fin cfg0.N) (r q : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r q)
      = vT (projT (inp m c) (wts m c)) (ix2 r (tok t q)) := by
  refine (Block.out_vt _ _ _ _ _ _ _ _ _ _ (ix2 r q) r q rfl rfl).trans ?_
  rw [Cert.InProjRefIdeal.Stage.vT_at, Cert.InProjRefIdeal.Stage.projT_at]
  simp only [w0, w3]
  unfold prj
  refine Finset.sum_congr rfl fun k _ => (mul_comm _ _).trans ?_
  exact congrArg (fun i => inp m c (ix2 i k) * wts m c (ix2 k _)) (Fin.ext (by dsimp only; omega))

/-- What the kernel writes of the head weights. -/
theorem point_iw (c : Dev nD) (t : Fin cfg0.N) (r : Fin 16) (q : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (ix2 r q)
      = iwT (projT (inp m c) (wts m c)) (ix2 r (tok t q)) := by
  refine (Block.out_iw _ _ _ _ _ _ _ _ _ _ (ix2 r q) r q rfl rfl).trans ?_
  rw [Cert.InProjRefIdeal.Stage.iwT_at]
  simp only [w0, w4, Cert.InProjRefIdeal.Stage.projT_at]
  by_cases h : r.val < 8
  · simp only [dif_pos h]
    unfold prj
    refine Finset.sum_congr rfl fun k _ => (mul_comm _ _).trans ?_
    exact congrArg (fun i => inp m c (ix2 i k) * wts m c (ix2 k _)) (Fin.ext (by dsimp only; omega))
  · simp only [dif_neg h, zero_mul, Finset.sum_const_zero]

/-- The keys' array after the run. -/
theorem final_k (c : Dev nD) : (dats m 0 c).arrAt 10 (cfgs 0).N = kT (flatT (inp m c) (wts m c)) := by
  refine (dats m 0 c).arrAt_eq_of_covers 10 _ (by decide +kernel) fun t _ y => ?_
  blk_simp
  rw [after0_10]
  idx_vars y
  refine (point_k m c t y0 y1).trans ?_
  unfold tok
  blk_ext [idx t]

/-- The queries' array after the run. -/
theorem final_q (c : Dev nD) : (dats m 0 c).arrAt 11 (cfgs 0).N = qT (flatT (inp m c) (wts m c)) := by
  refine (dats m 0 c).arrAt_eq_of_covers 11 _ (by decide +kernel) fun t _ y => ?_
  blk_simp
  rw [after0_11]
  idx_vars y
  refine (point_q m c t y0 y1).trans ?_
  unfold tok
  blk_ext [idx t]

/-- The values' array after the run. -/
theorem final_v (c : Dev nD) : (dats m 0 c).arrAt 12 (cfgs 0).N = vT (projT (inp m c) (wts m c)) := by
  refine (dats m 0 c).arrAt_eq_of_covers 12 _ (by decide +kernel) fun t _ y => ?_
  blk_simp
  rw [after0_12]
  idx_vars y
  refine (point_v m c t y0 y1).trans ?_
  unfold tok
  blk_ext [idx t]

/-- The head weights' array after the run. -/
theorem final_iw (c : Dev nD) : (dats m 0 c).arrAt 13 (cfgs 0).N = iwT (projT (inp m c) (wts m c)) := by
  refine (dats m 0 c).arrAt_eq_of_covers 13 _ (by decide +kernel) fun t _ y => ?_
  blk_simp
  rw [after0_13]
  idx_vars y
  refine (point_iw m c t y0 y1).trans ?_
  unfold tok
  blk_ext [idx t]

end Cert.InProjIdeal.Final

end
-- ==== Proof.InRun.lean ====
/- The run of the input projections' kernel, its four results named. -/
module

public import Idealize.ShloMosaic.Lib.Pipeline.ValueKit
public import proofs.«01_k».proof.Proof.InFinal
@[expose] public section

set_option maxRecDepth 16384
noncomputable section
open Idealize.ShloMosaic Idealize.ShloMosaic.TcCoe Idealize.SL.Sem

namespace Cert.InProjIdeal.Final
open Cert.InProjIdeal Cert.InProjIdeal.Gen
open Cert.InProjRefIdeal.Stage (kT qT vT iwT flatT projT)
variable (m : (ℓ : Loc nD τ sig) → Buf (Elt Ideal) ℓ)

/-- The kernel's run leaves the reference's four results over the arguments, and the arguments. -/
theorem run_at (g : Dev nD → PrngReg) :
    θ_run defs (onTc (τ := τ) (main (F := Ideal))) ⟨m, fun _ => 0, g⟩ fun r => ∀ c : Dev nD,
      r.2.mem ((c.tc : Thread nD τ).loc main_v66_0) = kT (flatT (inp m c) (wts m c))
      ∧ r.2.mem ((c.tc : Thread nD τ).loc main_v66_1) = qT (flatT (inp m c) (wts m c))
      ∧ r.2.mem ((c.tc : Thread nD τ).loc main_v66_2) = vT (projT (inp m c) (wts m c))
      ∧ r.2.mem ((c.tc : Thread nD τ).loc main_v66_3) = iwT (projT (inp m c) (wts m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 10).trans (final_k m c), ((h.1 c).1 11).trans (final_q m c), ((h.1 c).1 12).trans (final_v m c),
    ((h.1 c).1 13).trans (final_iw m c), h.2 c⟩) (θ_run_and (run_main m g) (unchanged m g))

end Cert.InProjIdeal.Final

end
-- ==== Proof.MemFinal.lean ====
/- The memory keys and values: the kernel's result array after the run is the reference's result over the arguments. -/
module

public import Idealize.ShloMosaic.Lib.Pipeline.ValueKit
public import Idealize.ShloMosaic.Lib.Pointwise
public import proofs.«01_k».proof.Proof.Gen.MemKvIdeal.Frame
public import proofs.«01_k».proof.Proof.Gen.MemKvRefIdeal.Run
public import proofs.«01_k».proof.Proof.Row
@[expose] public section

set_option maxRecDepth 16384
noncomputable section
open Idealize.ShloMosaic Idealize.ShloMosaic.TcCoe Idealize.SL.Sem
open Idealize.ShloMosaic.Pipeline (Dat)

namespace Cert.MemKvRefIdeal.Stage
open Cert.MemKvRefIdeal Cert.MemKvRefIdeal.Gen Cert.Row

/-- The memory normalised with one layer's gain. -/
def normT (M : FVec Ideal S2x256x1024 .f32) (G : FVec Ideal S1024 .f32) : FVec Ideal S2x256x1024 .f32 :=
  mulf (mulf M (broadcastInDim S2x256x1024 ![0, 1, 2] bcast_S2x256x1_S2x256x1024_0_1_2 (Host.rsqrt (addf (Host.divf
      (broadcastInDim S2x256x1 ![0, 1] bcast_S2x256_S2x256x1_0_1 (Host.reduceAdd (mulf M M) (constant S_ .f32 0x00000000#32) reducesTo_S2x256x1024_S2x256_d2 h_S_))
      (broadcastInDim S2x256x1 ![] bcast_S_S2x256x1 (constant S_ .f32 0x44800000#32))) (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 G))

/-- One layer's keys and values, as the stacked array's one entry. -/
def kvT (M : FVec Ideal S2x256x1024 .f32) (G : FVec Ideal S1024 .f32) (W : FVec Ideal S1024x1024 .f32) : FVec Ideal S1x2x256x1024 .f32 :=
  broadcastInDim S1x2x256x1024 ![1, 2, 3] bcast_S2x256x1024_S1x2x256x1024_1_2_3 (Host.dotGeneral dot_S2x256x1024_S1024x1024_S2x256x1024_2_0_01_1_n_n none (normT M G) W)

/-- The reference's result over its arguments: the four layers' keys and values stacked. -/
def result (M : FVec Ideal S2x256x1024 .f32) (G : FVec Ideal S4x1024 .f32) (W : FVec Ideal S4x1024x1024 .f32) : FVec Ideal S4x512x1024 .bf16 :=
  truncf .bf16 (shapeCast _ (concatenate S4x2x256x1024 0 [
    ⟨S1x2x256x1024, kvT M (shapeCast _ (extractStridedSlice S1x1024 ![0, 0] G slices_S4x1024_S1x1024_0_0) shapeCasts_S1x1024_S1024) (shapeCast _ (extractStridedSlice S1x1024x1024 ![0, 0, 0] W slices_S4x1024x1024_S1x1024x1024_0_0_0) shapeCasts_S1x1024x1024_S1024x1024)⟩,
    ⟨S1x2x256x1024, kvT M (shapeCast _ (extractStridedSlice S1x1024 ![1, 0] G slices_S4x1024_S1x1024_1_0) shapeCasts_S1x1024_S1024) (shapeCast _ (extractStridedSlice S1x1024x1024 ![1, 0, 0] W slices_S4x1024x1024_S1x1024x1024_1_0_0) shapeCasts_S1x1024x1024_S1024x1024)⟩,
    ⟨S1x2x256x1024, kvT M (shapeCast _ (extractStridedSlice S1x1024 ![2, 0] G slices_S4x1024_S1x1024_2_0) shapeCasts_S1x1024_S1024) (shapeCast _ (extractStridedSlice S1x1024x1024 ![2, 0, 0] W slices_S4x1024x1024_S1x1024x1024_2_0_0) shapeCasts_S1x1024x1024_S1024x1024)⟩,
    ⟨S1x2x256x1024, kvT M (shapeCast _ (extractStridedSlice S1x1024 ![3, 0] G slices_S4x1024_S1x1024_3_0) shapeCasts_S1x1024_S1024) (shapeCast _ (extractStridedSlice S1x1024x1024 ![3, 0, 0] W slices_S4x1024x1024_S1x1024x1024_3_0_0) shapeCasts_S1x1024x1024_S1024x1024)⟩]
    concatenates_S1x2x256x1024_S1x2x256x1024_S1x2x256x1024_S1x2x256x1024_S4x2x256x1024_d0) shapeCasts_S4x2x256x1024_S4x512x1024) bitsLt_bf16_f32

/-- What the run leaves in the result buffer, as that term. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) := by
  unfold Value.res_out0 Value.res_main_v78 result kvT normT
  rfl

/-- One layer's keys and values at an entry: the normalised memory row times the layer's matrix. -/
theorem kv_at (M : FVec Ideal S2x256x1024 .f32) (G : FVec Ideal S1024 .f32) (W : FVec Ideal S1024x1024 .f32) (b : Fin 2) (j : Fin 256) (d : Fin 1024) :
    kvT M G W (ix4 0 b j d) = proj (rms (fun k => M (ix3 b j k)) (fun k => G (ix1 k))) (fun k d => W (ix2 k d)) d := by
  pointwise [kvT, normT, rms, proj]

/-- The result at an entry. -/
theorem result_at (M : FVec Ideal S2x256x1024 .f32) (G : FVec Ideal S4x1024 .f32) (W : FVec Ideal S4x1024x1024 .f32) (l : Fin 4) (i : Fin 512) (d : Fin 1024) :
    result M G W (ix3 l i d) = proj (rms (fun k => M (ix3 ⟨i.val / 256, by omega⟩ ⟨i.val % 256, by omega⟩ k)) (fun k => G (ix2 l k))) (fun k d => W (ix3 l k d)) d := by
  match l with
  | 0 => pointwise [result, kv_at]
  | 1 => pointwise [result, kv_at]
  | 2 => pointwise [result, kv_at]
  | 3 => pointwise [result, kv_at]

end Cert.MemKvRefIdeal.Stage

namespace Cert.MemKvIdeal.Final
open Cert.MemKvIdeal Cert.MemKvIdeal.Gen Cert.Row
variable (m : (ℓ : Loc nD τ sig) → Buf (Elt Ideal) ℓ)

/-- The reference's result over the kernel's arguments. -/
def ref (c : Dev nD) : FVec Ideal S4x512x1024 .bf16 :=
  Cert.MemKvRefIdeal.Stage.result (m ((c : Thread nD τ).loc main_arg0)) (m ((c : Thread nD τ).loc main_arg1)) (m ((c : Thread nD τ).loc main_arg2))

/-- Which block each window stages at each grid point. -/
theorem idx : ∀ t : Fin cfg0.N, win0_0.index t = ![0, 0] ∧ win0_1.index t = ![t.val, 0, 0] ∧ win0_2.index t = ![t.val, 0, 0]
    ∧ win0_3.index t = ![t.val, 0, 0] ∧ t.val < 4 :=
  (by decide +kernel : ∀ t : Fin grid0.N, _)

/-- What a grid point leaves in its output block: the memory rows normalised, times the layer's matrix. -/
theorem out_row (x0 : FVec Ideal S512x1024 .f32) (x1 : FVec Ideal S1x1x1024 .f32) (x2 : FVec Ideal S1x1024x1024 .bf16) (r : Fin 512) (d : Fin 1024) :
    out0_3 (F := Ideal) x0 x1 x2 (ix3 0 r d) = proj (rms (fun k => x0 (ix2 r k)) (fun k => x1 (ix3 0 0 k))) (fun k d => x2 (ix3 0 k d)) d := by
  frame_out
  pointwise [k0_pay1, rms, proj]

/-- A grid point's output row is the reference's row at the place the block has in the array. -/
theorem point (c : Dev nD) (t : Fin cfg0.N) (r : Fin 512) (d : Fin 1024) :
    out0_3 (iblk m c 0 t) (iblk m c 1 t) (iblk m c 2 t) (ix3 0 r d) = ref m c (ix3 ⟨t.val, (idx t).2.2.2.2⟩ r d) := by
  have ht := (idx t).2.2.2.2
  refine (out_row _ _ _ r d).trans ?_
  refine Eq.trans ?_ (Cert.MemKvRefIdeal.Stage.result_at _ _ _ _ _ d).symm
  have e0 : (fun k => iblk m c 0 t (ix2 r k)) = fun k => m ((c : Thread nD τ).loc main_arg0) (ix3 ⟨r.val / 256, by omega⟩ ⟨r.val % 256, by omega⟩ k) := by
    funext k
    blk_simp [iblk, idx t]
    entry_read
    pointwise
    blk_ext [idx t]
  have e1 : (fun k => iblk m c 1 t (ix3 0 0 k)) = fun k => m ((c : Thread nD τ).loc main_arg1) (ix2 ⟨t.val, ht⟩ k) := by
    funext k
    blk_simp [iblk, idx t]
    entry_read
    pointwise
    blk_ext [idx t]
  have e2 : (fun k d => iblk m c 2 t (ix3 0 k d)) = fun k d => m ((c : Thread nD τ).loc main_arg2) (ix3 ⟨t.val, ht⟩ k d) := by
    funext k d
    blk_simp [iblk, idx t]
    entry_read
    pointwise
    blk_ext [idx t]
  rw [e0, e1, e2]

/-- The result array after the run. -/
theorem final (c : Dev nD) : (dats m 0 c).arrAt 3 (cfgs 0).N = ref m c := by
  refine (dats m 0 c).arrAt_eq_of_covers 3 _ (by decide +kernel) fun t _ y => ?_
  blk_simp
  rw [after0_3]
  idx_vars y
  have z : y0 = 0 := Fin.ext (by omega)
  subst z
  refine (point m c t y1 y2).trans ?_
  blk_ext [idx t]

end Cert.MemKvIdeal.Final

end
-- ==== Proof.NormFinal.lean ====
/- The normalised input: the kernel's result array after the run is the reference's result over the arguments. -/
module

public import Idealize.ShloMosaic.Lib.Pipeline.ValueKit
public import Idealize.ShloMosaic.Lib.Pointwise
public import proofs.«01_k».proof.Proof.Gen.NormIdeal.Frame
public import proofs.«01_k».proof.Proof.Gen.NormRefIdeal.Run
public import proofs.«01_k».proof.Proof.Row
@[expose] public section

set_option maxRecDepth 16384
noncomputable section
open Idealize.ShloMosaic Idealize.ShloMosaic.TcCoe Idealize.SL.Sem
open Idealize.ShloMosaic.Pipeline (Dat)

namespace Cert.NormRefIdeal.Stage
open Cert.NormRefIdeal Cert.NormRefIdeal.Gen Cert.Row

/-- The reference's result over its arguments. -/
def result (X : FVec Ideal S2x8192x1024 .f32) (G : FVec Ideal S1024 .f32) : FVec Ideal S16384x1024 .bf16 :=
  truncf .bf16 (shapeCast _ (mulf (mulf X (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf X X) (constant S_ .f32 0x00000000#32) reducesTo_S2x8192x1024_S2x8192_d2 h_S_))
      (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))) shapeCasts_S2x8192x1024_S16384x1024) bitsLt_bf16_f32

/-- The result at a row and column. -/
theorem result_at (X : FVec Ideal S2x8192x1024 .f32) (G : FVec Ideal S1024 .f32) (i : Fin 16384) (d : Fin 1024) :
    result X G (ix2 i d) = rms (fun k => X (ix3 ⟨i.val / 8192, by omega⟩ ⟨i.val % 8192, by omega⟩ k)) (fun d => G (ix1 d)) d := by
  pointwise [result, rms]

end Cert.NormRefIdeal.Stage

namespace Cert.NormIdeal.Final
open Cert.NormIdeal Cert.NormIdeal.Gen Cert.Row
variable (m : (ℓ : Loc nD τ sig) → Buf (Elt Ideal) ℓ)

/-- The reference's result over the kernel's arguments. -/
def ref (c : Dev nD) : FVec Ideal S16384x1024 .bf16 :=
  Cert.NormRefIdeal.Stage.result (m ((c : Thread nD τ).loc main_arg0)) (m ((c : Thread nD τ).loc main_arg1))

/-- Which block each window stages at each grid point. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- What a grid point leaves in its output block: the rows of its input block, normalised. -/
theorem out_row (x0 : FVec Ideal S1024x1024 .f32) (x1 : FVec Ideal S1x1024 .f32) (r d : Fin 1024) :
    out0_2 (F := Ideal) x0 x1 (ix2 r d) = rms (fun k => x0 (ix2 r k)) (fun d => x1 (ix2 0 d)) d := by
  frame_out
  pointwise [k0_pay1, rms]

/-- A grid point's output row is the reference's row at the place the block has in the array. -/
theorem point (c : Dev nD) (t : Fin cfg0.N) (r d : Fin 1024) :
    out0_2 (iblk m c 0 t) (iblk m c 1 t) (ix2 r d) = ref m c (ix2 ⟨t.val * 1024 + r.val, by have := (idx t).2.2.2; omega⟩ d) := by
  have ht := (idx t).2.2.2
  refine (out_row _ _ r d).trans ?_
  refine Eq.trans ?_ (Cert.NormRefIdeal.Stage.result_at _ _ _ d).symm
  have e0 : (fun k => iblk m c 0 t (ix2 r k)) = fun k => m ((c : Thread nD τ).loc main_arg0) (ix3 ⟨(t.val * 1024 + r.val) / 8192, by omega⟩ ⟨(t.val * 1024 + r.val) % 8192, by omega⟩ k) := by
    funext k
    blk_simp [iblk, idx t]
    entry_read
    pointwise
    blk_ext [idx t]
  have e1 : (fun w => iblk m c 1 t (ix2 0 w)) = fun w => m ((c : Thread nD τ).loc main_arg1) (ix1 w) := by
    funext w
    blk_simp [iblk, idx t]
    entry_read
    pointwise
    blk_ext [idx t]
  rw [e0, e1]

/-- The result array after the run. -/
theorem final (c : Dev nD) : (dats m 0 c).arrAt 2 (cfgs 0).N = ref m c := by
  refine (dats m 0 c).arrAt_eq_of_covers 2 _ (by decide +kernel) fun t _ y => ?_
  blk_simp
  rw [after0_2]
  idx_vars y
  refine (point m c t y0 y1).trans ?_
  blk_ext [idx t]

end Cert.NormIdeal.Final

end
-- ==== Proof.MidFinal.lean ====
/- The merge of a layer before the last: its two result arrays after the run are the reference's results over the arguments.
   Its payloads are those of the last layer's merge, so the lemmas of Block.lean and RefAt.lean carry over. -/
module

public import Idealize.ShloMosaic.Lib.Pipeline.ValueKit
public import Idealize.ShloMosaic.Lib.Pointwise
public import proofs.«01_k».proof.Proof.Gen.MergeMidIdeal.Frame
public import proofs.«01_k».proof.Proof.Gen.MergeMidRefIdeal.Run
public import proofs.«01_k».proof.Proof.Block
public import proofs.«01_k».proof.Proof.RefAt
@[expose] public section

set_option maxRecDepth 16384
noncomputable section
open Idealize.ShloMosaic Idealize.ShloMosaic.TcCoe Idealize.SL.Sem
open Idealize.ShloMosaic.Pipeline (Dat)

namespace Cert.MergeMidIdeal.Final
open Cert.MergeMidIdeal Cert.MergeMidIdeal.Gen Cert.Row
variable (m : (ℓ : Loc nD τ sig) → Buf (Elt Ideal) ℓ)

/-- The residual stream's payload: the third branch joins, and the sum is projected and added to the residual. -/
theorem stream_pay (v0 : FVec Ideal S512x1024 .bf16) (v101 : FVec Ideal S512x1024 .f32) (v107 : FVec Ideal S512x512 .bf16)
    (v108 : FVec Ideal S1x512x1024 .bf16) (v111 : FVec Ideal S1024x1024 .bf16) (v116 : FVec Ideal S512x1024 .f32)
    (v118 : FVec Ideal S1024x1024 .bf16) (mg : Fin 1024 → EReal) (r : Fin 512)
    (hm : ∀ d, v101 (ix2 r d) + Ideal.logistic (∑ k : Fin 1024, v0 (ix2 r k) * v111 (ix2 k d)) * ∑ w : Fin 512, v107 (ix2 r w) * v108 (ix3 0 w d) = mg d)
    (d : Fin 1024) :
    k0_pay1 (F := Ideal) v0 v101 v107 v108 v111 v116 v118 (ix2 r d) = resid (fun d => v116 (ix2 r d)) mg (fun k d => v118 (ix2 k d)) d := by
  pointwise [k0_pay1, hm]
  simp only [resid, proj]

/-- The normalised payload, over the residual stream's. -/
theorem norm_pay (v0 : FVec Ideal S512x1024 .bf16) (v101 : FVec Ideal S512x1024 .f32) (v107 : FVec Ideal S512x512 .bf16)
    (v108 : FVec Ideal S1x512x1024 .bf16) (v111 : FVec Ideal S1024x1024 .bf16) (v116 : FVec Ideal S512x1024 .f32)
    (v118 : FVec Ideal S1024x1024 .bf16) (v131 : FVec Ideal S1x1024 .f32) (r : Fin 512) (d : Fin 1024) :
    k0_pay2 (F := Ideal) v0 v101 v107 v108 v111 v116 v118 v131 (ix2 r d)
      = rms (fun d => k0_pay1 (F := Ideal) v0 v101 v107 v108 v111 v116 v118 (ix2 r d)) (fun d => v131 (ix2 0 d)) d := by
  unfold k0_pay2
  generalize k0_pay1 (F := Ideal) v0 v101 v107 v108 v111 v116 v118 = X
  pointwise [rms]

/-- The payloads before the last are those of the last layer's merge. -/
theorem pays : @k0_pay3 Ideal _ = @Cert.KernelIdeal.Gen.k0_pay2 Ideal _ ∧ @k0_pay4 Ideal _ = @Cert.KernelIdeal.Gen.k0_pay3 Ideal _
    ∧ @k0_pay5 Ideal _ = @Cert.KernelIdeal.Gen.k0_pay4 Ideal _ ∧ @k0_pay6 Ideal _ = @Cert.KernelIdeal.Gen.k0_pay5 Ideal _
    ∧ @k0_pay7 Ideal _ = @Cert.KernelIdeal.Gen.k0_pay6 Ideal _ ∧ @k0_pay8 Ideal _ = @Cert.KernelIdeal.Gen.k0_pay7 Ideal _ :=
  ⟨rfl, rfl, rfl, rfl, rfl, rfl⟩

/-- What a grid point leaves of the residual stream at row `r`, over its input blocks. -/
theorem stream_row (x0 x1 : FVec Ideal S512x512 .f32) (x2 : FVec Ideal S512x1024 .bf16) (x3 : FVec Ideal S256x1024 .bf16)
    (x4 : FVec Ideal S1024x512 .bf16) (x5 : FVec Ideal S1024x1536 .bf16) (x6 : FVec Ideal S1024x3072 .bf16)
    (x7 : FVec Ideal S3x512x1024 .bf16) (x8 : FVec Ideal S1024x1024 .bf16) (x9 : FVec Ideal S512x1024 .f32)
    (x10 : FVec Ideal S1x1024 .f32) (r : Fin 512) (d : Fin 1024) :
    out0_11 (F := Ideal) x0 x1 x2 x3 x4 x5 x6 x7 x8 x9 x10 (ix2 r d)
      = resid (fun d => x9 (ix2 r d))
          (merged (fun w => x0 (ix2 r w)) (fun w => x1 (ix2 r w)) (fun k => x2 (ix2 r k)) (fun j c => x3 (ix2 j c)) (fun k c => x4 (ix2 k c))
            (fun k c => x5 (ix2 k c)) (fun k c => x6 (ix2 k c)) (fun n w d => x7 (ix3 n w d)))
          (fun k d => x8 (ix2 k d)) d := by
  unfold_out out0_11
  frame_out
  obtain ⟨p3, p4, p5, p6, p7, p8⟩ := pays
  rw [p3, p4, p5, p6, p7, p8]
  refine (stream_pay _ _ _ _ _ _ _
    (merged (fun w => x0 (ix2 r w)) (fun w => x1 (ix2 r w)) (fun k => x2 (ix2 r k)) (fun j c => x3 (ix2 j c)) (fun k c => x4 (ix2 k c))
      (fun k c => x5 (ix2 k c)) (fun k c => x6 (ix2 k c)) (fun n w d => x7 (ix3 n w d))) r (Cert.KernelIdeal.Block.joined x0 x1 x2 x3 x4 x5 x6 x7 _ _ (fun w d => by pointwise) (fun k c => by pointwise) r) d).trans ?_
  pointwise

/-- What a grid point leaves of the normalised stream at row `r`, over its input blocks. -/
theorem norm_row (x0 x1 : FVec Ideal S512x512 .f32) (x2 : FVec Ideal S512x1024 .bf16) (x3 : FVec Ideal S256x1024 .bf16)
    (x4 : FVec Ideal S1024x512 .bf16) (x5 : FVec Ideal S1024x1536 .bf16) (x6 : FVec Ideal S1024x3072 .bf16)
    (x7 : FVec Ideal S3x512x1024 .bf16) (x8 : FVec Ideal S1024x1024 .bf16) (x9 : FVec Ideal S512x1024 .f32)
    (x10 : FVec Ideal S1x1024 .f32) (r : Fin 512) (d : Fin 1024) :
    out0_12 (F := Ideal) x0 x1 x2 x3 x4 x5 x6 x7 x8 x9 x10 (ix2 r d)
      = rms (resid (fun d => x9 (ix2 r d))
          (merged (fun w => x0 (ix2 r w)) (fun w => x1 (ix2 r w)) (fun k => x2 (ix2 r k)) (fun j c => x3 (ix2 j c)) (fun k c => x4 (ix2 k c))
            (fun k c => x5 (ix2 k c)) (fun k c => x6 (ix2 k c)) (fun n w d => x7 (ix3 n w d)))
          (fun k d => x8 (ix2 k d))) (fun d => x10 (ix2 0 d)) d := by
  unfold_out out0_12
  frame_out
  obtain ⟨p3, p4, p5, p6, p7, p8⟩ := pays
  rw [p3, p4, p5, p6, p7, p8]
  refine (norm_pay _ _ _ _ _ _ _ _ r d).trans ?_
  refine congrArg₂ (fun X G => rms X G d) (funext fun d => ?_) (funext fun d => by pointwise)
  refine (stream_pay _ _ _ _ _ _ _
    (merged (fun w => x0 (ix2 r w)) (fun w => x1 (ix2 r w)) (fun k => x2 (ix2 r k)) (fun j c => x3 (ix2 j c)) (fun k c => x4 (ix2 k c))
      (fun k c => x5 (ix2 k c)) (fun k c => x6 (ix2 k c)) (fun n w d => x7 (ix3 n w d))) r (Cert.KernelIdeal.Block.joined x0 x1 x2 x3 x4 x5 x6 x7 _ _ (fun w d => by pointwise) (fun k c => by pointwise) r) d).trans ?_
  pointwise

/-- The reference's residual stream over the kernel's arguments. -/
def refStream (c : Dev nD) : FVec Ideal S16384x1024 .f32 :=
  Cert.ReferenceIdeal.Stage.stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The reference's normalised stream over the kernel's arguments. -/
def refNorm (c : Dev nD) : FVec Ideal S16384x1024 .f32 :=
  Cert.ReferenceIdeal.Stage.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- Which block each window stages at each grid point. -/
theorem idx : ∀ t : Fin cfg0.N, win0_0.index t = ![t.val, 0] ∧ win0_1.index t = ![t.val, 0] ∧ win0_2.index t = ![t.val, 0]
    ∧ win0_3.index t = ![t.val / 16, 0] ∧ win0_4.index t = ![0, 0] ∧ win0_5.index t = ![0, 0] ∧ win0_6.index t = ![0, 0]
    ∧ win0_7.index t = ![0, 0, 0] ∧ win0_8.index t = ![0, 0] ∧ win0_9.index t = ![t.val, 0] ∧ win0_10.index t = ![0, 0] ∧ win0_11.index t = ![t.val, 0]
    ∧ win0_12.index t = ![t.val, 0] ∧ t.val < 32 :=
  (by decide +kernel : ∀ t : Fin grid0.N, _)

/-- A grid point's output rows are the reference's rows at the place the block has in the arrays. -/
theorem point (c : Dev nD) (t : Fin cfg0.N) (r : Fin 512) (d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d)
      = refStream m c (ix2 ⟨t.val * 512 + r.val, by have := (idx t).2.2.2.2.2.2.2.2.2.2.2.2.2; omega⟩ d)
    ∧ out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d)
      = refNorm m c (ix2 ⟨t.val * 512 + r.val, by have := (idx t).2.2.2.2.2.2.2.2.2.2.2.2.2; omega⟩ d) := by
  have ht := (idx t).2.2.2.2.2.2.2.2.2.2.2.2.2
  have e0 : (fun w => iblk m c 0 t (ix2 r w)) = fun w => m ((c : Thread nD τ).loc main_arg0) (ix2 ⟨t.val * 512 + r.val, by omega⟩ w) := by
    funext w; blk_ext [iblk, V, idx t]
  have e1 : (fun w => iblk m c 1 t (ix2 r w)) = fun w => m ((c : Thread nD τ).loc main_arg1) (ix2 ⟨t.val * 512 + r.val, by omega⟩ w) := by
    funext w; blk_ext [iblk, V, idx t]
  have e2 : (fun w => iblk m c 2 t (ix2 r w)) = fun w => m ((c : Thread nD τ).loc main_arg2) (ix2 ⟨t.val * 512 + r.val, by omega⟩ w) := by
    funext w; blk_ext [iblk, V, idx t]
  have e3 : (fun j w => iblk m c 3 t (ix2 j w)) = fun (j : Fin 256) w => m ((c : Thread nD τ).loc main_arg3) (ix2 ⟨(t.val * 512 + r.val) / 8192 * 256 + j.val, by omega⟩ w) := by
    funext j w; blk_ext [iblk, V, idx t]
  have e4 : (fun k w => iblk m c 4 t (ix2 k w)) = fun k w => m ((c : Thread nD τ).loc main_arg4) (ix2 k w) := by
    funext k w; blk_ext [iblk, V, idx t]
  have e5 : (fun k w => iblk m c 5 t (ix2 k w)) = fun k w => m ((c : Thread nD τ).loc main_arg5) (ix2 k w) := by
    funext k w; blk_ext [iblk, V, idx t]
  have e6 : (fun k w => iblk m c 6 t (ix2 k w)) = fun k w => m ((c : Thread nD τ).loc main_arg6) (ix2 k w) := by
    funext k w; blk_ext [iblk, V, idx t]
  have e7 : (fun n k w => iblk m c 7 t (ix3 n k w)) = fun n k w => m ((c : Thread nD τ).loc main_arg7) (ix3 n k w) := by
    funext n k w; blk_ext [iblk, V, idx t]
  have e8 : (fun k w => iblk m c 8 t (ix2 k w)) = fun k w => m ((c : Thread nD τ).loc main_arg8) (ix2 k w) := by
    funext k w; blk_ext [iblk, V, idx t]
  have e9 : (fun w => iblk m c 9 t (ix2 r w)) = fun w => m ((c : Thread nD τ).loc main_arg9) (ix2 ⟨t.val * 512 + r.val, by omega⟩ w) := by
    funext w; blk_ext [iblk, V, idx t]
  have e10 : (fun w => iblk m c 10 t (ix2 0 w)) = fun w => m ((c : Thread nD τ).loc main_arg10) (ix1 w) := by
    funext w
    blk_simp [iblk, idx t]
    entry_read
    pointwise
    blk_ext [idx t]
  constructor
  · refine (stream_row _ _ _ _ _ _ _ _ _ _ _ r d).trans ?_
    refine Eq.trans ?_ (Cert.ReferenceIdeal.Stage.stream_at _ _ _ _ _ _ _ _ _ _ _ d).symm
    rw [e0, e1, e2, e3, e4, e5, e6, e7, e8, e9]
  · refine (norm_row _ _ _ _ _ _ _ _ _ _ _ r d).trans ?_
    refine Eq.trans ?_ (Cert.ReferenceIdeal.Stage.result_at _ _ _ _ _ _ _ _ _ _ _ _ d).symm
    rw [e0, e1, e2, e3, e4, e5, e6, e7, e8, e9, e10]

/-- The residual stream's array after the run. -/
theorem final_stream (c : Dev nD) : (dats m 0 c).arrAt 11 (cfgs 0).N = refStream m c := by
  refine (dats m 0 c).arrAt_eq_of_covers 11 _ (by decide +kernel) fun t _ y => ?_
  blk_simp
  rw [after0_11]
  idx_vars y
  refine (point m c t y0 y1).1.trans ?_
  blk_ext [idx t]

/-- The normalised stream's array after the run. -/
theorem final_norm (c : Dev nD) : (dats m 0 c).arrAt 12 (cfgs 0).N = refNorm m c := by
  refine (dats m 0 c).arrAt_eq_of_covers 12 _ (by decide +kernel) fun t _ y => ?_
  blk_simp
  rw [after0_12]
  idx_vars y
  refine (point m c t y0 y1).2.trans ?_
  blk_ext [idx t]

/-- The kernel's run leaves the reference's two results over the arguments, and the arguments. -/
theorem run_at (g : Dev nD → PrngReg) :
    θ_run defs (onTc (τ := τ) (main (F := Ideal))) ⟨m, fun _ => 0, g⟩ fun r => ∀ c : Dev nD,
      r.2.mem ((c.tc : Thread nD τ).loc main_v1_0) = refStream m c
      ∧ r.2.mem ((c.tc : Thread nD τ).loc main_v1_1) = refNorm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h.1 c).1 11).trans (final_stream m c), ((h.1 c).1 12).trans (final_norm m c), h.2 c⟩)
    (θ_run_and (run_main m g) (unchanged m g))

end Cert.MergeMidIdeal.Final

namespace Cert.MergeMidRefIdeal.Stage
open Cert.MergeMidRefIdeal Cert.MergeMidRefIdeal.Gen
open Cert.ReferenceIdeal.Stage

/-- What the reference's run leaves of the residual stream, as the staged term. -/
theorem stream_eq (m : (ℓ : Loc nD τ sig) → Buf (Elt Ideal) ℓ) (c : Dev nD) : Value.res_out0 m c
    = stream (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold Value.res_out0 Value.res_main_v63 stream residT mergeT stackT memT softT expT topT maxT scoreT mixT siluT gateT hid
  rfl

/-- What the reference's run leaves of the normalised stream, as the staged term. -/
theorem norm_eq (m : (ℓ : Loc nD τ sig) → Buf (Elt Ideal) ℓ) (c : Dev nD) : Value.res_out1 m c
    = (result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) : FVec Ideal S16384x1024 .f32) := by
  unfold Value.res_out1 Value.res_main_v78 result rmsT residT mergeT stackT memT softT expT topT maxT scoreT mixT siluT gateT hid
  rfl

end Cert.MergeMidRefIdeal.Stage

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.MergeMid
public import proofs.«01_k».proof.Proof.Gen.MergeMid.Skeleton
public import proofs.«01_k».proof.Proof.Gen.MergeMid.Launch
public import proofs.«01_k».proof.Proof.Gen.MergeMid.Points
public import proofs.«01_k».proof.Proof.Gen.MergeMid.Frame
public import proofs.«01_k».proof.Proof.Gen.MergeMidIdeal
public import proofs.«01_k».proof.Proof.Gen.MergeMidIdeal.Skeleton
public import proofs.«01_k».proof.Proof.Gen.MergeMidIdeal.Launch
public import proofs.«01_k».proof.Proof.Gen.MergeMidIdeal.Points
public import proofs.«01_k».proof.Proof.Gen.MergeMidIdeal.Frame
public import proofs.«01_k».proof.Proof.Gen.MergeMidIdeal.Value
public import proofs.«01_k».proof.Proof.Gen.MergeMidRefIdeal
public import proofs.«01_k».proof.Proof.Gen.MergeMidRefIdeal.Run
public import proofs.«01_k».proof.Proof.RefRun
public import proofs.«01_k».proof.Proof.Final
public import proofs.«01_k».proof.Proof.InRun
public import proofs.«01_k».proof.Proof.MemFinal
public import proofs.«01_k».proof.Proof.NormFinal
public import proofs.«01_k».proof.Proof.MidFinal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From memories that agree on the arguments the kernel's result and the reference's are equal. -/
theorem algebraic : Cert.algebraic_KernelIdeal_ReferenceIdeal := by
  pair_intro
  · run_from Cert.KernelIdeal.Gen.run_main m g
  · run_from Cert.ReferenceIdeal.Value.run m' g'
    have h1 := Cert.ReferenceIdeal.Stage.res_eq m' c
    have h2 := Cert.KernelIdeal.Final.final m c
    rw [h2]
    refine h1.trans ?_
    unfold Cert.KernelIdeal.Final.ref
    obtain ⟨h0, h1, h2, h3, h4, h5, h6, h7, h8, h9, h10⟩ := hagree c
    exact Cert.ReferenceIdeal.Stage.result_congr h0 h1 h2 h3 h4 h5 h6 h7 h8 h9 h10

/-- From memories that agree on the arguments the input projections' four results and their reference's are equal. -/
theorem algebraic_in : Cert.algebraic_InProjIdeal_InProjRefIdeal := by
  intro m g m' g' _ hagree
  refine ⟨_, _, _, _, Cert.InProjIdeal.Final.run_at m g, ?_⟩
  exact (θ_run _ _ _).mono (fun r h c => ⟨
    (h c).1.trans (congrArg₂ (fun a b => Cert.InProjRefIdeal.Stage.kT (Cert.InProjRefIdeal.Stage.flatT a b)) (hagree c).1 (hagree c).2),
    (h c).2.1.trans (congrArg₂ (fun a b => Cert.InProjRefIdeal.Stage.qT (Cert.InProjRefIdeal.Stage.flatT a b)) (hagree c).1 (hagree c).2),
    (h c).2.2.1.trans (congrArg₂ (fun a b => Cert.InProjRefIdeal.Stage.vT (Cert.InProjRefIdeal.Stage.projT a b)) (hagree c).1 (hagree c).2),
    (h c).2.2.2.1.trans (congrArg₂ (fun a b => Cert.InProjRefIdeal.Stage.iwT (Cert.InProjRefIdeal.Stage.projT a b)) (hagree c).1 (hagree c).2),
    (h c).2.2.2.2⟩) (Cert.InProjRefIdeal.Stage.run_at m' g')

/-- From memories that agree on the arguments the memory keys and values and their reference's are equal. -/
theorem algebraic_mem : Cert.algebraic_MemKvIdeal_MemKvRefIdeal := by
  pair_intro
  · run_from Cert.MemKvIdeal.Gen.run_main m g
  · run_from Cert.MemKvRefIdeal.Value.run m' g'
    have h1 := Cert.MemKvRefIdeal.Stage.res_eq m' c
    rw [Cert.MemKvIdeal.Final.final m c]
    refine h1.trans ?_
    unfold Cert.MemKvIdeal.Final.ref
    obtain ⟨h0, h1, h2⟩ := hagree c
    rw [h0, h1, h2]

/-- From memories that agree on the arguments the normalised input and its reference's are equal. -/
theorem algebraic_norm : Cert.algebraic_NormIdeal_NormRefIdeal := by
  pair_intro
  · run_from Cert.NormIdeal.Gen.run_main m g
  · run_from Cert.NormRefIdeal.Value.run m' g'
    rw [Cert.NormIdeal.Final.final m c]
    unfold Cert.NormIdeal.Final.ref
    rfl

/-- From memories that agree on the arguments the two results of a layer before the last and their reference's are equal. -/
theorem algebraic_mid : Cert.algebraic_MergeMidIdeal_MergeMidRefIdeal := by
  intro m g m' g' _ hagree
  refine ⟨_, _, Cert.MergeMidIdeal.Final.run_at m g, ?_⟩
  refine (θ_run _ _ _).mono (fun r h c => ?_) (Cert.MergeMidRefIdeal.Value.run m' g')
  obtain ⟨h0, h1, h2, h3, h4, h5, h6, h7, h8, h9, h10⟩ := hagree c
  exact ⟨((h c).1.trans (Cert.MergeMidRefIdeal.Stage.stream_eq m' c)).trans (Cert.ReferenceIdeal.Stage.stream_congr h0 h1 h2 h3 h4 h5 h6 h7 h8 h9),
    ((h c).2.1.trans (Cert.MergeMidRefIdeal.Stage.norm_eq m' c)).trans (Cert.ReferenceIdeal.Stage.result_congr h0 h1 h2 h3 h4 h5 h6 h7 h8 h9 h10),
    (h c).2.2⟩

/-- Everything the certificate claims. -/
theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts,
  Cert.MemKv.Gen.facts, Cert.MemKvIdeal.Gen.facts, Cert.MemKvRefIdeal.Gen.facts, Cert.Norm.Gen.facts, Cert.NormIdeal.Gen.facts, Cert.NormRefIdeal.Gen.facts,
  Cert.MergeMid.Gen.facts, Cert.MergeMidIdeal.Gen.facts, Cert.MergeMidRefIdeal.Gen.facts,
  fun m ρ _ => Cert.Kernel.Gen.frame m ρ, fun m ρ _ => Cert.KernelIdeal.Gen.frame m ρ,
  fun m ρ _ => (θ_run _ _ _).mono (fun r h => ⟨fun c => (h c).2, sem_eq_zero_of_no_sems rfl _⟩) (Cert.ReferenceIdeal.Value.run m ρ),
  fun m ρ _ => Cert.InProj.Gen.frame m ρ, fun m ρ _ => Cert.InProjIdeal.Gen.frame m ρ,
  fun m ρ _ => (θ_run _ _ _).mono (fun r h => ⟨fun c => (h c).2.2.2.2, sem_eq_zero_of_no_sems rfl _⟩) (Cert.InProjRefIdeal.Value.run m ρ),
  fun m ρ _ => Cert.MemKv.Gen.frame m ρ, fun m ρ _ => Cert.MemKvIdeal.Gen.frame m ρ,
  fun m ρ _ => (θ_run _ _ _).mono (fun r h => ⟨fun c => (h c).2, sem_eq_zero_of_no_sems rfl _⟩) (Cert.MemKvRefIdeal.Value.run m ρ),
  fun m ρ _ => Cert.Norm.Gen.frame m ρ, fun m ρ _ => Cert.NormIdeal.Gen.frame m ρ,
  fun m ρ _ => (θ_run _ _ _).mono (fun r h => ⟨fun c => (h c).2, sem_eq_zero_of_no_sems rfl _⟩) (Cert.NormRefIdeal.Value.run m ρ),
  fun m ρ _ => Cert.MergeMid.Gen.frame m ρ, fun m ρ _ => Cert.MergeMidIdeal.Gen.frame m ρ,
  fun m ρ _ => (θ_run _ _ _).mono (fun r h => ⟨fun c => (h c).2.2, sem_eq_zero_of_no_sems rfl _⟩) (Cert.MergeMidRefIdeal.Value.run m ρ),
  trivial, algebraic, trivial, algebraic_in, trivial, algebraic_mem, trivial, algebraic_norm, trivial, algebraic_mid⟩

end Cert.Proof

end
